-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x512x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_scores_finite_ReferenceIdeal.lean ====
abbrev S1x512x1024 : Shape := ⟨3, ![1, 512, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x512x1024 .f32) (main_arg1 : FVec F S1024x4096 .f32) (main_arg2 : FVec F S1x2048x32x128 .f32) (main_arg3 : FVec F S1x2048x32x128 .f32) (main_arg4 : FVec F S4096x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S128x1024 : Shape := ⟨2, ![128, 1024]⟩
abbrev S4x128x1024 : Shape := ⟨3, ![4, 128, 1024]⟩
abbrev S8x2048x128 : Shape := ⟨3, ![8, 2048, 128]⟩
abbrev S2x128x1024 : Shape := ⟨3, ![2, 128, 1024]⟩
abbrev S3x128x1024 : Shape := ⟨3, ![3, 128, 1024]⟩
abbrev S16 : Shape := ⟨1, ![16]⟩
abbrev S3 : Shape := ⟨1, ![3]⟩
abbrev S4 : Shape := ⟨1, ![4]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S1x128x1024 : Shape := ⟨3, ![1, 128, 1024]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S128x512 : Shape := ⟨2, ![128, 512]⟩

abbrev nBuf : Space → Nat
  | .hbm => 6
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S128x1024, .f32⟩
  | .local _ .vmem, ⟨5, _⟩ => ⟨S4x128x1024, .f32⟩
  | .local _ .vmem, ⟨6, _⟩ => ⟨S8x2048x128, .f32⟩
  | .local _ .vmem, ⟨7, _⟩ => ⟨S8x2048x128, .f32⟩
  | .local _ .vmem, ⟨8, _⟩ => ⟨S2x128x1024, .f32⟩
  | .local _ .vmem, ⟨9, _⟩ => ⟨S3x128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c3_i32_126 : BitVec 32) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v109 : BitVec 32 := Scalar.addi v2 c3_i32_126
  let c4_i32_127 : BitVec 32 := 4#32
  let v110 : BitVec 32 := Scalar.remsi v109 c4_i32_127
  let c128_i32 : BitVec 32 := 128#32
  let v111 : BitVec 32 := Scalar.muli v110 c128_i32
  let v112 : Index := Scalar.indexCast v111
  let c0_128 : Index := 0#32
  ![0, v112.toNat, 0]
def k0_dev3 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_346 : BitVec 32 := 1#32
  let v343 : BitVec 32 := Scalar.muli v7 c1_i32_346
  let v344 : BitVec 32 := Scalar.addi c0_i32_347 v343
  v344.toNat
def k0_dev4 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_489 : BitVec 32 := 1#32
  let v513 : BitVec 32 := Scalar.muli v7 c1_i32_489
  let v514 : BitVec 32 := Scalar.addi c0_i32_490 v513
  v514.toNat
def k0_dev5 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_632 : BitVec 32 := 1#32
  let v683 : BitVec 32 := Scalar.muli v7 c1_i32_632
  let v684 : BitVec 32 := Scalar.addi c0_i32_633 v683
  v684.toNat
def k0_off2 (d0 : Dev nD) : Fin 3 → Nat :=
  let c0_773 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_772 : BitVec 32 := 128#32
  let v854 : BitVec 32 := Scalar.muli v2 c128_i32_772
  let v855 : Index := Scalar.indexCast v854
  let c0_774 : Index := 0#32
  ![0, v855.toNat, 0]
def k0_dev6 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_777 : BitVec 32 := 1#32
  let v859 : BitVec 32 := Scalar.muli v7 c1_i32_777
  let v860 : BitVec 32 := Scalar.addi c0_i32_778 v859
  v860.toNat
def k0_dev7 (d0 : Dev nD) : Nat :=
  let c0_i32_782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_781 : BitVec 32 := 1#32
  let v865 : BitVec 32 := Scalar.muli v5 c1_i32_781
  let v866 : BitVec 32 := Scalar.addi c0_i32_782 v865
  v866.toNat
def k0_off3 (d0 : Dev nD) : Fin 3 → Nat :=
  let c0_800 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c128_i32_799 : BitVec 32 := 128#32
  let v884 : BitVec 32 := Scalar.muli v5 c128_i32_799
  let v885 : Index := Scalar.indexCast v884
  let c0_801 : Index := 0#32
  ![0, v885.toNat, 0]
def k0_dev8 (d0 : Dev nD) : Nat :=
  let c0_i32_810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_809 : BitVec 32 := 1#32
  let v895 : BitVec 32 := Scalar.muli v7 c1_i32_809
  let v896 : BitVec 32 := Scalar.addi c0_i32_810 v895
  v896.toNat
def k0_dev9 (d0 : Dev nD) : Nat :=
  let c0_i32_818 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_817 : BitVec 32 := 1#32
  let v903 : BitVec 32 := Scalar.muli v5 c1_i32_817
  let v904 : BitVec 32 := Scalar.addi c0_i32_818 v903
  v904.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x512x4096 : Shape := ⟨3, ![1, 512, 4096]⟩
abbrev S1x512x32x128 : Shape := ⟨4, ![1, 512, 32, 128]⟩
abbrev S_ : Shape := ⟨0, ![]⟩
abbrev S1x32x512x1 : Shape := ⟨4, ![1, 32, 512, 1]⟩
abbrev S1x1024x32x128 : Shape := ⟨4, ![1, 1024, 32, 128]⟩
abbrev S1x32x512x1024 : Shape := ⟨4, ![1, 32, 512, 1024]⟩
abbrev S1x32x512 : Shape := ⟨3, ![1, 32, 512]⟩
abbrev S1x512x32x1 : Shape := ⟨4, ![1, 512, 32, 1]⟩
abbrev S1x32x128x512 : Shape := ⟨4, ![1, 32, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x4096, .f32⟩
  | .hbm, ⟨2, _⟩ => ⟨S1x2048x32x128, .f32⟩
  | .hbm, ⟨3, _⟩ => ⟨S1x2048x32x128, .f32⟩
  | .hbm, ⟨4, _⟩ => ⟨S4096x1024, .f32⟩
  | .hbm, ⟨5, _⟩ => ⟨S1x512x4096, .f32⟩
  | .hbm, ⟨6, _⟩ => ⟨S1x512x32x128, .f32⟩
  | .hbm, ⟨7, _⟩ => ⟨S_, .f32⟩
  | .hbm, ⟨8, _⟩ => ⟨S1x512x32x128, .f32⟩
  | .hbm, ⟨9, _⟩ => ⟨S_, .f32⟩
  | .hbm, ⟨10, _⟩ => ⟨S1x32x512x1, .f32⟩
  | .hbm, ⟨11, _⟩ => ⟨S_, .f32⟩
  | .hbm, ⟨12, _⟩ => ⟨S1x32x512x1, .f32⟩
  | .hbm, ⟨13, _⟩ => ⟨S1x1024x32x128, .f32⟩
  | .hbm, ⟨14, _⟩ => ⟨S1x1024x32x128, .f32⟩
  | .hbm, ⟨15, _⟩ => ⟨S1x32x512x1024, .f32⟩
  | .hbm, ⟨16, _⟩ => ⟨S_, .f32⟩
  | .hbm, ⟨17, _⟩ => ⟨S1x32x512x1024, .f32⟩
  | .hbm, ⟨18, _⟩ => ⟨S1x32x512x1024, .f32⟩
  | .hbm, ⟨19, _⟩ => ⟨S_, .f32⟩
  | .hbm, ⟨20, _⟩ => ⟨S1x32x512, .f32⟩
  | .hbm, ⟨21, _⟩ => ⟨S1x32x512x1, .f32⟩
  | .hbm, ⟨22, _⟩ => ⟨S1x32x512x1, .f32⟩
  | .hbm, ⟨23, _⟩ => ⟨S1x32x512x1, .f32⟩
  | .hbm, ⟨24, _⟩ => ⟨S1x32x512x1, .f32⟩
  | .hbm, ⟨25, _⟩ => ⟨S1x32x512x1024, .f32⟩
  | .hbm, ⟨26, _⟩ => ⟨S1x32x512x1024, .f32⟩
  | .hbm, ⟨27, _⟩ => ⟨S1x32x512x1024, .f32⟩
  | .hbm, ⟨28, _⟩ => ⟨S1x32x512x1, .f32⟩
  | .hbm, ⟨29, _⟩ => ⟨S_, .f32⟩
  | .hbm, ⟨30, _⟩ => ⟨S1x32x512, .f32⟩
  | .hbm, ⟨31, _⟩ => ⟨S1x32x512x1, .f32⟩
  | .hbm, ⟨32, _⟩ => ⟨S1x32x512x1, .f32⟩
  | .hbm, ⟨33, _⟩ => ⟨S1x512x32x1, .f32⟩
  | .hbm, ⟨34, _⟩ => ⟨S1x512x32x128, .f32⟩
  | .hbm, ⟨35, _⟩ => ⟨S1x512x32x128, .f32⟩
  | .hbm, ⟨36, _⟩ => ⟨S1x32x128x512, .f32⟩
  | .hbm, ⟨37, _⟩ => ⟨S1x512x32x128, .f32⟩
  | .hbm, ⟨38, _⟩ => ⟨S1x512x32x128, .f32⟩
  | .hbm, ⟨39, _⟩ => ⟨S1x1024x32x128, .f32⟩
  | .hbm, ⟨40, _⟩ => ⟨S1x1024x32x128, .f32⟩
  | .hbm, ⟨41, _⟩ => ⟨S1x32x512x1024, .f32⟩
  | .hbm, ⟨42, _⟩ => ⟨S_, .f32⟩
  | .hbm, ⟨43, _⟩ => ⟨S1x32x512x1024, .f32⟩
  | .hbm, ⟨44, _⟩ => ⟨S1x32x512x1024, .f32⟩
  | .hbm, ⟨45, _⟩ => ⟨S_, .f32⟩
  | .hbm, ⟨46, _⟩ => ⟨S1x32x512, .f32⟩
  | .hbm, ⟨47, _⟩ => ⟨S1x32x512x1, .f32⟩
  | .hbm, ⟨48, _⟩ => ⟨S1x32x512x1, .f32⟩
  | .hbm, ⟨49, _⟩ => ⟨S1x32x512x1, .f32⟩
  | .hbm, ⟨50, _⟩ => ⟨S1x32x512x1, .f32⟩
  | .hbm, ⟨51, _⟩ => ⟨S1x32x512x1024, .f32⟩
  | .hbm, ⟨52, _⟩ => ⟨S1x32x512x1024, .f32⟩
  | .hbm, ⟨53, _⟩ => ⟨S1x32x512x1024, .f32⟩
  | .hbm, ⟨54, _⟩ => ⟨S1x32x512x1, .f32⟩
  | .hbm, ⟨55, _⟩ => ⟨S_, .f32⟩
  | .hbm, ⟨56, _⟩ => ⟨S1x32x512, .f32⟩
  | .hbm, ⟨57, _⟩ => ⟨S1x32x512x1, .f32⟩
  | .hbm, ⟨58, _⟩ => ⟨S1x32x512x1, .f32⟩
  | .hbm, ⟨59, _⟩ => ⟨S1x512x32x1, .f32⟩
  | .hbm, ⟨60, _⟩ => ⟨S1x512x32x128, .f32⟩
  | .hbm, ⟨61, _⟩ => ⟨S1x512x32x128, .f32⟩
  | .hbm, ⟨62, _⟩ => ⟨S1x32x128x512, .f32⟩
  | .hbm, ⟨63, _⟩ => ⟨S1x512x32x128, .f32⟩
  | .hbm, ⟨64, _⟩ => ⟨S1x512x32x128, .f32⟩
  | .hbm, ⟨65, _⟩ => ⟨S1x512x32x1, .f32⟩
  | .hbm, ⟨66, _⟩ => ⟨S1x512x32x128, .f32⟩
  | .hbm, ⟨67, _⟩ => ⟨S1x512x32x128, .f32⟩
  | .hbm, ⟨68, _⟩ => ⟨S1x512x4096, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Softmax.lean ====
/-
The softmax of one row, taken whole and taken in two chunks with a running maximum, over the extended reals.
-/
module

public import Idealize.ShloMosaic.PureOps.Ideal
public import Idealize.ShloMosaic.PureOps.Ideal.Laws

@[expose] public section

noncomputable section

namespace Cert.Attn

open Idealize.ShloMosaic

/-- A real that is not negative goes into a sum of extended reals. -/
theorem coe_mul_sum {ι : Type} (S : Finset ι) {c : ℝ} (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- A sum of reals is a real. -/
theorem coe_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem exp_coe (r : ℝ) : Ideal.exp (r : EReal) = ((Real.exp r : ℝ) : EReal) := rfl

theorem exp_bot : Ideal.exp ⊥ = 0 := rfl

/-- A quotient whose two terms are scaled by one positive real is the quotient. -/
theorem div_scale {a l : ℝ} (ha : 0 < a) (hl : 0 < l) (N : EReal) :
    Ideal.div ((a : EReal) * N) ((a * l : ℝ) : EReal) = Ideal.div N (l : EReal) := by
  have h1 : ((a * l : ℝ) : EReal) ≠ 0 := by exact_mod_cast (mul_pos ha hl).ne'
  have h2 : ((l : ℝ) : EReal) ≠ 0 := by exact_mod_cast hl.ne'
  unfold Ideal.div
  rw [if_neg h1, if_neg h2, mul_comm (a : EReal) N, mul_assoc, ← EReal.coe_inv, ← EReal.coe_inv, ← EReal.coe_mul]
  congr 3
  field_simp

/-- The two-chunk softmax. `s` and `u` are the scores of the two chunks, `V` and `W` the values they weigh, `a` and `b`
    any two reals the running maximum takes. -/
theorem two_chunks {ι κ : Type} [Fintype ι] [Fintype κ] [Nonempty ι] (s : ι → ℝ) (u : κ → ℝ) (V : ι → EReal) (W : κ → EReal) (a b : ℝ) :
    Ideal.div
      ((0 * Ideal.exp (⊥ - (a : EReal)) + ∑ j, V j * Ideal.exp ((s j : EReal) - a)) * Ideal.exp ((a : EReal) - b) + ∑ j, W j * Ideal.exp ((u j : EReal) - b))
      ((0 * Ideal.exp (⊥ - (a : EReal)) + (0 + ∑ j, Ideal.exp ((s j : EReal) - a))) * Ideal.exp ((a : EReal) - b) + (0 + ∑ j, Ideal.exp ((u j : EReal) - b)))
    = Ideal.div (∑ j, Ideal.exp (s j : EReal) * V j + ∑ j, Ideal.exp (u j : EReal) * W j)
        (∑ j, Ideal.exp (s j : EReal) + ∑ j, Ideal.exp (u j : EReal)) := by
  have e1 : ∀ x y : ℝ, Ideal.exp ((x : EReal) - y) = ((Real.exp x * Real.exp (-y) : ℝ) : EReal) := fun x y => by
    rw [← EReal.coe_sub, exp_coe, sub_eq_add_neg, Real.exp_add]
  have e2 : ∀ j, V j * Ideal.exp ((s j : EReal) - a) = ((Real.exp (-a) : ℝ) : EReal) * (Ideal.exp (s j : EReal) * V j) := fun j => by
    rw [e1, exp_coe, EReal.coe_mul, mul_comm (V j), mul_comm ((Real.exp (s j) : ℝ) : EReal), mul_assoc]
  have e3 : ∀ j, W j * Ideal.exp ((u j : EReal) - b) = ((Real.exp (-b) : ℝ) : EReal) * (Ideal.exp (u j : EReal) * W j) := fun j => by
    rw [e1, exp_coe, EReal.coe_mul, mul_comm (W j), mul_comm ((Real.exp (u j) : ℝ) : EReal), mul_assoc]
  have hb : Real.exp (-a) * (Real.exp a * Real.exp (-b)) = Real.exp (-b) := by
    rw [← mul_assoc, ← Real.exp_add, neg_add_cancel, Real.exp_zero, one_mul]
  have hl : 0 < ∑ j, Real.exp (s j) + ∑ j, Real.exp (u j) :=
    add_pos_of_pos_of_nonneg (Finset.sum_pos (fun j _ => Real.exp_pos _) Finset.univ_nonempty) (Finset.sum_nonneg fun j _ => (Real.exp_pos _).le)
  have num : (0 * Ideal.exp (⊥ - (a : EReal)) + ∑ j, V j * Ideal.exp ((s j : EReal) - a)) * Ideal.exp ((a : EReal) - b) + ∑ j, W j * Ideal.exp ((u j : EReal) - b)
      = ((Real.exp (-b) : ℝ) : EReal) * (∑ j, Ideal.exp (s j : EReal) * V j + ∑ j, Ideal.exp (u j : EReal) * W j) := by
    rw [zero_mul, zero_add, Finset.sum_congr rfl fun j _ => e2 j, Finset.sum_congr rfl fun j _ => e3 j, ← coe_mul_sum _ (Real.exp_pos _).le,
      ← coe_mul_sum _ (Real.exp_pos _).le, e1, mul_comm _ ((_ : ℝ) : EReal), ← mul_assoc, ← EReal.coe_mul, mul_comm (_ * _), hb]
    exact (EReal.left_distrib_of_nonneg_of_ne_top (by exact_mod_cast (Real.exp_pos _).le) (EReal.coe_ne_top _) _ _).symm
  have den : (0 * Ideal.exp (⊥ - (a : EReal)) + (0 + ∑ j, Ideal.exp ((s j : EReal) - a))) * Ideal.exp ((a : EReal) - b) + (0 + ∑ j, Ideal.exp ((u j : EReal) - b))
      = ((Real.exp (-b) * (∑ j, Real.exp (s j) + ∑ j, Real.exp (u j)) : ℝ) : EReal) := by
    simp only [e1, zero_mul, zero_add, coe_sum, ← EReal.coe_mul, ← EReal.coe_add, ← Finset.sum_mul]
    congr 1
    rw [mul_assoc, hb]; ring
  rw [num, den, div_scale (Real.exp_pos _) hl]
  simp only [exp_coe, coe_sum, ← EReal.coe_add]

/-- The greatest of reals, from −∞ up, is a real. -/
theorem fold_max_real {ι : Type} (S : Finset ι) (hS : S.Nonempty) (f : ι → ℝ) :
    ∃ r : ℝ, S.fold max (⊥ : EReal) (fun i => ((f i : ℝ) : EReal)) = r := by
  classical
  induction hS using Finset.Nonempty.cons_induction with
  | singleton a => exact ⟨f a, by simp⟩
  | cons a S ha hS ih =>
    obtain ⟨r, hr⟩ := ih
    exact ⟨max (f a) r, by rw [Finset.fold_cons, hr, EReal.coe_strictMono.monotone.map_max]⟩

end Cert.Attn
-- ==== Proof.RefStages.lean ====
/-
The reference's result, stage by stage.
-/
module

public import proofs.«01_k».proof.Proof.Softmax
public import proofs.«01_k».proof.Proof.Gen.ReferenceIdeal.Run
public import Idealize.ShloMosaic.Lib.Pointwise
public import Idealize.ShloMosaic.Lib.IdealHost

@[expose] public section

noncomputable section

namespace Cert.Ref

open Cert.ReferenceIdeal Cert.ReferenceIdeal.Gen Cert.ReferenceIdeal.Value
open Idealize.ShloMosaic Idealize.ShloMosaic.TcCoe

variable {F : FTy → Type} [FloatOps F]

/-- The queries, one row of 128 for each row of the input and each head. -/
def qs (X : FVec F S1x512x1024 .f32) (W : FVec F S1024x4096 .f32) : FVec F S1x512x32x128 .f32 :=
  shapeCast S1x512x32x128 (Host.dotGeneral dot_S1x512x1024_S1024x4096_S1x512x4096_2_0_01_1_n_n none X W) shapeCasts_S1x512x4096_S1x512x32x128

/-- The two halves of the keys or of the values. -/
def half0 (K : FVec F S1x2048x32x128 .f32) : FVec F S1x1024x32x128 .f32 :=
  extractStridedSlice S1x1024x32x128 ![0, 0, 0, 0] K slices_S1x2048x32x128_S1x1024x32x128_0_0_0_0
def half1 (K : FVec F S1x2048x32x128 .f32) : FVec F S1x1024x32x128 .f32 :=
  extractStridedSlice S1x1024x32x128 ![0, 1024, 0, 0] K slices_S1x2048x32x128_S1x1024x32x128_0_1024_0_0

/-- The scores of one half. -/
def scores (Q : FVec F S1x512x32x128 .f32) (K : FVec F S1x1024x32x128 .f32) : FVec F S1x32x512x1024 .f32 :=
  mulf (Host.dotGeneral dot_S1x512x32x128_S1x1024x32x128_S1x32x512x1024_3_3_1_1_02_02 none Q K)
    (broadcastInDim S1x32x512x1024 ![] bcast_S_S1x32x512x1024 (constant S_ .f32 0x3DB504F3#32))

/-- The running maximum: where it starts, and its step. -/
def mx0 : FVec F S1x32x512x1 .f32 := broadcastInDim S1x32x512x1 ![] bcast_S_S1x32x512x1 (constant S_ .f32 0xFF800000#32)
def mxStep (M : FVec F S1x32x512x1 .f32) (S : FVec F S1x32x512x1024 .f32) : FVec F S1x32x512x1 .f32 :=
  maximumf M (broadcastInDim S1x32x512x1 ![0, 1, 2] bcast_S1x32x512_S1x32x512x1_0_1_2
    (Host.reduce FloatOps.maximumf S (constant S_ .f32 0xFF800000#32) reducesTo_S1x32x512x1024_S1x32x512_d3 h_S_))

/-- The factor that takes the old maximum to the new, and the weights of one half. -/
def alpha (M N : FVec F S1x32x512x1 .f32) : FVec F S1x32x512x1 .f32 := Host.exp (subf M N)
def weights (S : FVec F S1x32x512x1024 .f32) (N : FVec F S1x32x512x1 .f32) : FVec F S1x32x512x1024 .f32 :=
  Host.exp (subf S (broadcastInDim S1x32x512x1024 ![0, 1, 2, 3] bcast_S1x32x512x1_S1x32x512x1024_0_1_2_3 N))

/-- The running sum of weights. -/
def l0 : FVec F S1x32x512x1 .f32 := broadcastInDim S1x32x512x1 ![] bcast_S_S1x32x512x1 (constant S_ .f32 0x00000000#32)
def lStep (L A : FVec F S1x32x512x1 .f32) (P : FVec F S1x32x512x1024 .f32) : FVec F S1x32x512x1 .f32 :=
  addf (mulf L A) (broadcastInDim S1x32x512x1 ![0, 1, 2] bcast_S1x32x512_S1x32x512x1_0_1_2
    (Host.reduceAdd P (constant S_ .f32 0x00000000#32) reducesTo_S1x32x512x1024_S1x32x512_d3 h_S_))

/-- A number for each head and row, under each of the 128 columns. -/
def wide (A : FVec F S1x32x512x1 .f32) : FVec F S1x512x32x128 .f32 :=
  broadcastInDim S1x512x32x128 ![0, 1, 2, 3] bcast_S1x512x32x1_S1x512x32x128_0_1_2_3
    (transpose S1x512x32x1 [0, 2, 1, 3] A transposes_S1x32x512x1_S1x512x32x1_0_2_1_3)

/-- The running weighted sum of values. -/
def o0 : FVec F S1x512x32x128 .f32 := broadcastInDim S1x512x32x128 ![] bcast_S_S1x512x32x128 (constant S_ .f32 0x00000000#32)
def oStep (O : FVec F S1x512x32x128 .f32) (A : FVec F S1x32x512x1 .f32) (V : FVec F S1x1024x32x128 .f32) (P : FVec F S1x32x512x1024 .f32) :
    FVec F S1x512x32x128 .f32 :=
  addf (mulf O (wide A)) (transpose S1x512x32x128 [0, 3, 1, 2]
    (Host.dotGeneral dot_S1x1024x32x128_S1x32x512x1024_S1x32x128x512_1_3_3_2_02_01 none V P) transposes_S1x32x128x512_S1x512x32x128_0_3_1_2)

section
variable (X : FVec F S1x512x1024 .f32) (W : FVec F S1024x4096 .f32) (K V : FVec F S1x2048x32x128 .f32) (O : FVec F S4096x1024 .f32)
def s1 : FVec F S1x32x512x1024 .f32 := scores (qs X W) (half0 K)
def s2 : FVec F S1x32x512x1024 .f32 := scores (qs X W) (half1 K)
def mx1 : FVec F S1x32x512x1 .f32 := mxStep mx0 (s1 X W K)
def mx2 : FVec F S1x32x512x1 .f32 := mxStep (mx1 X W K) (s2 X W K)
def p1 : FVec F S1x32x512x1024 .f32 := weights (s1 X W K) (mx1 X W K)
def p2 : FVec F S1x32x512x1024 .f32 := weights (s2 X W K) (mx2 X W K)
def l1 : FVec F S1x32x512x1 .f32 := lStep l0 (alpha mx0 (mx1 X W K)) (p1 X W K)
def l2 : FVec F S1x32x512x1 .f32 := lStep (l1 X W K) (alpha (mx1 X W K) (mx2 X W K)) (p2 X W K)
def o1 : FVec F S1x512x32x128 .f32 := oStep o0 (alpha mx0 (mx1 X W K)) (half0 V) (p1 X W K)
def o2 : FVec F S1x512x32x128 .f32 := oStep (o1 X W K V) (alpha (mx1 X W K) (mx2 X W K)) (half1 V) (p2 X W K)
/-- The heads' results. -/
def heads : FVec F S1x512x32x128 .f32 := Host.divf (o2 X W K V) (wide (l2 X W K))
/-- The result. -/
def out : FVec F S1x512x1024 .f32 :=
  Host.dotGeneral dot_S1x512x4096_S4096x1024_S1x512x1024_2_0_01_1_n_n none
    (shapeCast S1x512x4096 (heads X W K V) shapeCasts_S1x512x32x128_S1x512x4096) O
end

set_option maxRecDepth 100000 in
theorem out_eq (m : (ℓ : Loc nD τ sig) → Buf (Elt F) ℓ) (c : Dev nD) :
    res_out0 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold out heads o2 o1 l2 l1 p2 p1 mx2 mx1 s2 s1 oStep o0 wide lStep l0 weights alpha mxStep mx0 scores half0 half1 qs
  unfold res_out0 res_main_v55
  rfl

end Cert.Ref
-- ==== Proof.RefVal.lean ====
/-
The reference's result, read at an index.
-/
module

public import proofs.«01_k».proof.Proof.Softmax
public import proofs.«01_k».proof.Proof.RefStages
public import proofs.«01_k».proof.Proof.Gen.ReferenceIdeal.Run
public import Idealize.ShloMosaic.Lib.Pointwise
public import Idealize.ShloMosaic.Lib.IdealHost

@[expose] public section

noncomputable section

namespace Cert.Ref

open Cert.ReferenceIdeal Cert.ReferenceIdeal.Gen Cert.ReferenceIdeal.Value
open Cert.Attn
open Idealize.ShloMosaic Idealize.ShloMosaic.TcCoe

variable {F : FTy → Type} [FloatOps F]

theorem qs_apply (X : FVec Ideal S1x512x1024 .f32) (W : FVec Ideal S1024x4096 .f32) (i : Fin 512) (h : Fin 32) (e : Fin 128) :
    qs X W (ix4 0 i h e) = ∑ d : Fin 1024, X (ix3 0 i d) * W (ix2 d ⟨h.val * 128 + e.val, by omega⟩) := by
  unfold qs
  pointwise

theorem half0_apply (K : FVec Ideal S1x2048x32x128 .f32) (j : Fin 1024) (h : Fin 32) (e : Fin 128) :
    half0 K (ix4 0 j h e) = K (ix4 0 ⟨j.val, by omega⟩ h e) := by
  unfold half0
  pointwise
theorem half1_apply (K : FVec Ideal S1x2048x32x128 .f32) (j : Fin 1024) (h : Fin 32) (e : Fin 128) :
    half1 K (ix4 0 j h e) = K (ix4 0 ⟨1024 + j.val, by omega⟩ h e) := by
  unfold half1
  pointwise

theorem scores_apply (Q : FVec Ideal S1x512x32x128 .f32) (K : FVec Ideal S1x1024x32x128 .f32) (h : Fin 32) (i : Fin 512) (j : Fin 1024) :
    scores Q K (ix4 0 h i j) = (∑ e : Fin 128, Q (ix4 0 i h e) * K (ix4 0 j h e)) * Ideal.ofBits .f32 0x3DB504F3#32 := by
  unfold scores
  pointwise

theorem max_apply (M : FVec Ideal S1x32x512x1 .f32) (R : FVec Ideal S1x32x512 .f32) (h : Fin 32) (i : Fin 512) :
    maximumf M (broadcastInDim S1x32x512x1 ![0, 1, 2] bcast_S1x32x512_S1x32x512x1_0_1_2 R) (ix4 0 h i 0) = max (M (ix4 0 h i 0)) (R (ix3 0 h i)) := by
  pointwise

theorem lift_row (h : Fin 32) (i : Fin 512) (w : S1x32x512x1024.Reduces [3] S1x32x512) (j : Fin 1024) : w.lift (ix3 0 h i) j = ix4 0 h i j := by
  funext c; apply Fin.ext
  fin_cases c <;> rfl

theorem neg_inf : Ideal.ofBits .f32 0xFF800000#32 = (⊥ : EReal) := by simp [Ideal.ofBits, Ideal.ieee]

theorem mxStep_apply (M : FVec Ideal S1x32x512x1 .f32) (S : FVec Ideal S1x32x512x1024 .f32) (h : Fin 32) (i : Fin 512) :
    mxStep M S (ix4 0 h i 0) = max (M (ix4 0 h i 0)) (Finset.univ.fold max (⊥ : EReal) fun j : Fin 1024 => S (ix4 0 h i j)) := by
  have w : S1x32x512x1024.Reduces [3] S1x32x512 := by decide
  have e := Host.reduce_eq_fold_single (FloatOps.maximumf (F := Ideal) (φ := .f32)) S (constant (F := Ideal) S_ .f32 0xFF800000#32)
    reducesTo_S1x32x512x1024_S1x32x512_d3 w h_S_ (ix3 0 h i)
  refine (max_apply M _ h i).trans (congrArg (max (M (ix4 0 h i 0))) (e.trans ?_))
  have hf : (S ∘ w.lift (ix3 0 h i)) = fun j : Fin 1024 => S (ix4 0 h i j) := funext fun j => congrArg S (lift_row h i w j)
  exact (congrArg (fun b => Finset.fold max b (S ∘ w.lift (ix3 0 h i)) Finset.univ) neg_inf).trans
    (congrArg (fun f => Finset.fold max (⊥ : EReal) f (Finset.univ : Finset (Fin 1024))) hf)

theorem weights_apply (S : FVec Ideal S1x32x512x1024 .f32) (N : FVec Ideal S1x32x512x1 .f32) (h : Fin 32) (i : Fin 512) (j : Fin 1024) :
    weights S N (ix4 0 h i j) = Ideal.exp (S (ix4 0 h i j) - N (ix4 0 h i 0)) := by
  unfold weights
  pointwise

theorem alpha_apply (M N : FVec Ideal S1x32x512x1 .f32) (j : S1x32x512x1.Idx) : alpha M N j = Ideal.exp (M j - N j) := rfl

theorem lStep_apply (L A : FVec Ideal S1x32x512x1 .f32) (P : FVec Ideal S1x32x512x1024 .f32) (h : Fin 32) (i : Fin 512) :
    lStep L A P (ix4 0 h i 0) = L (ix4 0 h i 0) * A (ix4 0 h i 0) + (0 + ∑ j : Fin 1024, P (ix4 0 h i j)) := by
  unfold lStep
  pointwise

theorem wide_apply (A : FVec Ideal S1x32x512x1 .f32) (i : Fin 512) (h : Fin 32) (e : Fin 128) :
    wide A (ix4 0 i h e) = A (ix4 0 h i 0) := by
  unfold wide
  pointwise

theorem oStep_apply (O : FVec Ideal S1x512x32x128 .f32) (A : FVec Ideal S1x32x512x1 .f32) (V : FVec Ideal S1x1024x32x128 .f32)
    (P : FVec Ideal S1x32x512x1024 .f32) (i : Fin 512) (h : Fin 32) (e : Fin 128) :
    oStep O A V P (ix4 0 i h e) = O (ix4 0 i h e) * A (ix4 0 h i 0) + ∑ j : Fin 1024, V (ix4 0 j h e) * P (ix4 0 h i j) := by
  unfold oStep wide
  pointwise

theorem out_apply (X : FVec Ideal S1x512x1024 .f32) (W : FVec Ideal S1024x4096 .f32) (K V : FVec Ideal S1x2048x32x128 .f32) (O : FVec Ideal S4096x1024 .f32)
    (i : Fin 512) (n : Fin 1024) :
    out X W K V O (ix3 0 i n) = ∑ k : Fin 4096, heads X W K V (ix4 0 i ⟨k.val / 128, by omega⟩ ⟨k.val % 128, by omega⟩) * O (ix2 k n) := by
  unfold out
  generalize heads X W K V = H
  pointwise

theorem mx0_apply (h : Fin 32) (i : Fin 512) : mx0 (F := Ideal) (ix4 0 h i 0) = (⊥ : EReal) := by
  unfold mx0
  pointwise
  exact neg_inf
theorem l0_apply (h : Fin 32) (i : Fin 512) : l0 (F := Ideal) (ix4 0 h i 0) = (0 : EReal) := by
  unfold l0
  pointwise
theorem o0_apply (i : Fin 512) (h : Fin 32) (e : Fin 128) : o0 (F := Ideal) (ix4 0 i h e) = (0 : EReal) := by
  unfold o0
  pointwise

/-- The score of row `i` of head `h` against key `j`, as the reference takes it. -/
def score (X : FVec Ideal S1x512x1024 .f32) (W : FVec Ideal S1024x4096 .f32) (K : FVec Ideal S1x2048x32x128 .f32) (h : Fin 32) (i : Fin 512)
    (j : Fin 2048) : EReal :=
  (∑ e : Fin 128, (∑ d : Fin 1024, X (ix3 0 i d) * W (ix2 d ⟨h.val * 128 + e.val, by omega⟩)) * K (ix4 0 j h e)) * Ideal.ofBits .f32 0x3DB504F3#32

section
variable (X : FVec Ideal S1x512x1024 .f32) (W : FVec Ideal S1024x4096 .f32) (K V : FVec Ideal S1x2048x32x128 .f32)

/-- The two halves of the keys. -/
def lo (j : Fin 1024) : Fin 2048 := ⟨j.val, by omega⟩
def hi (j : Fin 1024) : Fin 2048 := ⟨1024 + j.val, by omega⟩

theorem s1_apply (h : Fin 32) (i : Fin 512) (j : Fin 1024) : s1 X W K (ix4 0 h i j) = score X W K h i (lo j) := by
  unfold s1 score
  rw [scores_apply]
  simp only [qs_apply, half0_apply, lo]
theorem s2_apply (h : Fin 32) (i : Fin 512) (j : Fin 1024) : s2 X W K (ix4 0 h i j) = score X W K h i (hi j) := by
  unfold s2 score
  rw [scores_apply]
  simp only [qs_apply, half1_apply, hi]

/-- A head's result where the scores are reals: the softmax of its scores. -/
theorem heads_apply (h : Fin 32) (i : Fin 512) (e : Fin 128) (s : Fin 2048 → ℝ) (hs : ∀ j, score X W K h i j = ((s j : ℝ) : EReal)) :
    heads X W K V (ix4 0 i h e)
      = Ideal.div (∑ j : Fin 1024, Ideal.exp (s (lo j) : EReal) * V (ix4 0 (lo j) h e) + ∑ j : Fin 1024, Ideal.exp (s (hi j) : EReal) * V (ix4 0 (hi j) h e))
          (∑ j : Fin 1024, Ideal.exp (s (lo j) : EReal) + ∑ j : Fin 1024, Ideal.exp (s (hi j) : EReal)) := by
  have h1 : ∀ j, s1 X W K (ix4 0 h i j) = ((s (lo j) : ℝ) : EReal) := fun j => (s1_apply X W K h i j).trans (hs _)
  have h2 : ∀ j, s2 X W K (ix4 0 h i j) = ((s (hi j) : ℝ) : EReal) := fun j => (s2_apply X W K h i j).trans (hs _)
  obtain ⟨r1, e1⟩ := fold_max_real (Finset.univ : Finset (Fin 1024)) Finset.univ_nonempty fun j => s (lo j)
  obtain ⟨r2, e2⟩ := fold_max_real (Finset.univ : Finset (Fin 1024)) Finset.univ_nonempty fun j => s (hi j)
  have m1 : mx1 X W K (ix4 0 h i 0) = ((r1 : ℝ) : EReal) := by
    unfold mx1
    rw [mxStep_apply, mx0_apply]
    simp only [h1]
    rw [e1]; exact max_eq_right bot_le
  have m2 : mx2 X W K (ix4 0 h i 0) = ((max r1 r2 : ℝ) : EReal) := by
    unfold mx2
    rw [mxStep_apply, m1]
    simp only [h2]
    rw [e2, EReal.coe_strictMono.monotone.map_max]
  rw [← two_chunks (fun j => s (lo j)) (fun j => s (hi j)) (fun j => V (ix4 0 (lo j) h e)) (fun j => V (ix4 0 (hi j) h e)) r1 (max r1 r2)]
  have hd : heads X W K V (ix4 0 i h e) = Ideal.div (o2 X W K V (ix4 0 i h e)) (wide (l2 X W K) (ix4 0 i h e)) := rfl
  have al1 : alpha mx0 (mx1 X W K) (ix4 0 h i 0) = Ideal.exp (⊥ - ((r1 : ℝ) : EReal)) := by
    rw [alpha_apply, m1, mx0_apply]
  have al2 : alpha (mx1 X W K) (mx2 X W K) (ix4 0 h i 0) = Ideal.exp (((r1 : ℝ) : EReal) - ((max r1 r2 : ℝ) : EReal)) := by
    rw [alpha_apply, m1, m2]
  rw [hd, wide_apply]
  unfold o2 l2 o1 l1 p2 p1
  simp only [oStep_apply, lStep_apply, weights_apply, al1, al2, o0_apply, l0_apply, half0_apply, half1_apply, h1, h2, m1, m2]
  rfl
end

end Cert.Ref
-- ==== Proof.Own.lean ====
/-
What a core holds of a memref, and how a load, a store and a reshaped copy act on it.
-/
module

public import Idealize.ShloMosaic.Lib.Memref
public import Idealize.ShloMosaic.Lib.MemrefSat
public import Idealize.ShloMosaic.Lib.Rounds
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable (c : Thread nD τ) {sp : Space} {sh : Shape} {e : EltTy}

/-- Holding a memref at contents, spelled out as a points-to of its buffer. -/
theorem owns_open (m : Memref sig c.2.kind sp sh e) (q : PosShare TreeShare) (X : sh.Idx → Val e) :
    (owns c m q X : sProp 𝕄) ⊢ iprop(∃ f, ⌜m.view.read Val f = X⌝ ∗ (m.view.loc c ↦[m.view.set]{q} f)) := .rfl

/-- Holding a squeezed memref is holding the memref, the contents read at the matching index. -/
theorem owns_squeeze (m : Memref sig c.2.kind sp sh e) (s' : Shape) (h : sh.Squeezes s') (q : PosShare TreeShare) (X : sh.Idx → Val e) :
    (owns c m q X : sProp 𝕄) ⊢ owns c (m.squeeze s' h) q (fun i => X (Shape.reshapeEquiv h.numel_eq i)) := by
  iintro H
  ihave H' := (owns_open c m q X) $$ H
  icases H' with ⟨%f, %hf, H⟩
  unfold owns
  iexists f
  isplitr
  · ipureintro; subst hf; rfl
  · rw [show (m.squeeze s' h).view.set = m.view.set from View.set_reshape _ _]; iexact H

/-- And back. -/
theorem owns_unsqueeze (m : Memref sig c.2.kind sp sh e) (s' : Shape) (h : sh.Squeezes s') (q : PosShare TreeShare) (X : s'.Idx → Val e) :
    (owns c (m.squeeze s' h) q X : sProp 𝕄) ⊢ owns c m q (fun i => X ((Shape.reshapeEquiv h.numel_eq).symm i)) := by
  iintro H
  ihave H' := (owns_open c (m.squeeze s' h) q X) $$ H
  icases H' with ⟨%f, %hf, H⟩
  unfold owns
  iexists f
  isplitr
  · ipureintro; subst hf; funext i
    show _ = m.view.read Val f (Shape.reshapeEquiv h.numel_eq ((Shape.reshapeEquiv h.numel_eq).symm i))
    rw [Equiv.apply_symm_apply]
  · rw [show (m.squeeze s' h).view.set = m.view.set from View.set_reshape _ _]; iexact H

/-- A memref written whole is held at what was written. -/
theorem owns_of_write (m : Memref sig c.2.kind sp sh e) (q : PosShare TreeShare) (f : m.view.ty.Contents Val) (X : sh.Idx → Val e) :
    (m.view.loc c ↦[m.view.set]{q} (m.view.write Val f X Finset.univ) : sProp 𝕄) ⊢ owns c m q X := by
  unfold owns
  iintro H
  iexists _
  isplitr; rotate_left
  · iexact H
  ipureintro; exact View.read_write_univ _ _

section Prog

variable {Λ : Labels} {defs : Defs nD τ sig Val Λ} (𝒱 : Variants) (bd : Option 𝒱.V) {Γ : PendingWaitsCtx sig Ix} (E : Set Name)
variable {α : Type} {Q : α → sProp (MT nD τ sig Ix Val Name U Lvl)}

/-- A load of the rectangle of a held slice reads the slice's contents. -/
theorem load_slice {cs : CoreSpace} {m : Memref sig c.2.kind cs sh e} {r : Rect sh} {hl : m.view.LoadsAt r.toLoadRect}
    {k : (r.shape.Idx → Val e) → Prog (TpuEff nD τ sig Val Λ c.2) α} (hr : ∀ a, r.stride a = 1) {q : PosShare TreeShare}
    {X : r.shape.Idx → Val e} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r.toLoadRect hl) k) Q) := by
  iintro H Hk
  ihave H' := (owns_open c (m.slice r hr) q X) $$ H
  icases H' with ⟨%f, %hf, H⟩
  subst hf
  iapply (wp_load_rect 𝒱 c bd E (m := m) (r := r) (S := (m.view.slice r).set) (q := q) (f := f) (Finset.Subset.refl _)) $$ H
  iintro H
  iapply Hk
  unfold owns
  iexists f
  isplitr
  · ipureintro; rfl
  · iexact H

/-- A load of a rectangle of a held memref reads the memref's contents there. -/
theorem load_sub {cs : CoreSpace} {m : Memref sig c.2.kind cs sh e} {r : Rect sh} {hl : m.view.LoadsAt r.toLoadRect}
    {k : (r.shape.Idx → Val e) → Prog (TpuEff nD τ sig Val Λ c.2) α} {q : PosShare TreeShare} {X : sh.Idx → Val e} :
    (owns c m q X : sProp 𝕄)
      ⊢ iprop((owns c m q X -∗ wp frame (wpE' defs 𝒱 c bd Γ) E (k fun i => X (r.emb i)) Q)
        -∗ wp frame (wpE' defs 𝒱 c bd Γ) E (.op (.load m r.toLoadRect hl) k) Q) := by
  iintro H Hk
  ihave H' := (owns_open c m q X) $$ H
  icases H' with ⟨%f, %hf, H⟩
  subst hf
  iapply (wp_load_rect 𝒱 c bd E (m := m) (r := r) (S := m.view.set) (q := q) (f := f) (View.set_slice_subset _ _)) $$ H
  iintro H
  iapply Hk
  unfold owns
  iexists f
  isplitr
  · ipureintro; rfl
  · iexact H

/-- A store to the rectangle of a held slice leaves the slice at what was stored. -/
theorem store_slice {cs : CoreSpace} {m : Memref sig c.2.kind cs sh e} {r : Rect sh} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (hr : ∀ a, r.stride a = 1) {X : r.shape.Idx → Val e} :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  iintro H Hk
  ihave H' := (owns_open c (m.slice r hr) fullShare X) $$ H
  icases H' with ⟨%f, %hf, H⟩
  iapply (wp_store 𝒱 c bd E (m := m) (r := r) (S := (m.view.slice r).set) (f := f) (Mk := Finset.univ) (w := w) (hx := hx) (hm := hm)
    (Finset.Subset.refl _)) $$ H
  iintro H
  iapply Hk
  unfold owns
  iexists ((m.access r).write Val f w Finset.univ)
  isplitr
  · ipureintro; exact View.read_write_univ (v := m.view.slice r) f w
  · iexact H

/-- A store to a rectangle of a held memref leaves the memref at its contents with the rectangle replaced. -/
theorem store_sub {cs : CoreSpace} {m : Memref sig c.2.kind cs sh e} {r : Rect sh} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : sh.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  iintro H Hk
  ihave H' := (owns_open c m fullShare X) $$ H
  icases H' with ⟨%f, %hf, H⟩
  subst hf
  iapply (wp_store 𝒱 c bd E (m := m) (r := r) (S := m.view.set) (f := f) (Mk := Finset.univ) (w := w) (hx := hx) (hm := hm)
    (View.set_slice_subset _ _)) $$ H
  iintro H
  iapply Hk
  unfold owns
  iexists ((m.access r).write Val f w Finset.univ)
  isplitr
  · ipureintro
    funext j
    by_cases hj : j ∈ r.set
    · rw [← Rect.map_emb_univ, Finset.mem_map] at hj
      obtain ⟨i, -, rfl⟩ := hj
      rw [Rect.overlay_emb]
      exact View.read_write_of_mem (v := m.view.slice r) f w (Finset.mem_univ i)
    · rw [Rect.overlay_of_not_mem _ _ _ hj]
      refine congrArg (_root_.cast (congrArg Val m.view.elt_eq)) (View.write_of_not_mem (v := m.view.slice r) f w Finset.univ ?_)
      intro hmem
      rw [View.setOn_univ, View.set_slice, Finset.mem_map] at hmem
      obtain ⟨y, hy, hyj⟩ := hmem
      exact hj (m.view.emb.injective hyj ▸ hy)
  · iexact H

end Prog

/-! ## Families of slices -/

section Families

variable {T : Type} [Fintype T] [DecidableEq T]

/-- Contents that agree with given contents on each of a disjoint covering family of rectangles. -/
theorem glue {β : Type} (r : T → Rect sh) (hd : ∀ t t', t ≠ t' → Disjoint (r t).set (r t').set)
    (hcov : (Finset.univ : Finset T).biUnion (fun t => (r t).set) = Finset.univ) (G : ∀ t, (r t).shape.Idx → β) :
    ∃ X : sh.Idx → β, ∀ t j, X ((r t).emb j) = G t j := by
  have hc : ∀ i : sh.Idx, ∃ p : (t : T) × (r t).shape.Idx, (r p.1).emb p.2 = i := fun i => by
    obtain ⟨t, -, ht⟩ := Finset.mem_biUnion.mp (hcov.symm ▸ Finset.mem_univ i)
    obtain ⟨j, hj⟩ := LoadRect.exists_idx_of_mem _ ht
    exact ⟨⟨t, j⟩, hj⟩
  choose p hp using hc
  refine ⟨fun i => G (p i).1 (p i).2, fun t j => ?_⟩
  have key : ∀ q : (t : T) × (r t).shape.Idx, (r q.1).emb q.2 = (r t).emb j → G q.1 q.2 = G t j := by
    rintro ⟨t', j'⟩ h
    have ht : t' = t := by
      by_contra hne
      refine Finset.disjoint_left.mp (hd t' t hne) (LoadRect.idx_mem _ j') ?_
      rw [show (r t').idx j' = (r t).idx j from h]; exact LoadRect.idx_mem _ j
    subst ht
    rw [(r t').emb.injective h]
  exact key _ (hp _)

/-- Rectangles of equal sizes one after another on one axis, whole on the others: apart, and covering. -/
theorem axis_disjoint {n : ℕ} (a : Fin sh.rank) (w : ℕ) (off : Fin n → Fin sh.rank → ℕ) (size : Fin sh.rank → ℕ)
    (hin : ∀ t b, off t b + size b ≤ sh.size b) (ho : ∀ t, off t a = w * t.val) (hs : size a = w) :
    ∀ t t', t ≠ t' → Disjoint (Rect.unit (s := sh) (off t) size (hin t)).set (Rect.unit (s := sh) (off t') size (hin t')).set := by
  intro t t' hne
  refine Finset.disjoint_left.mpr fun i h h' => hne (Fin.ext ?_)
  have h1 := Rect.mem_set_unit.mp h a
  have h2 := Rect.mem_set_unit.mp h' a
  rw [ho, hs] at h1 h2
  by_contra hv
  rcases Nat.lt_or_gt_of_ne hv with hlt | hlt
  · have := Nat.mul_le_mul_left w (show t.val + 1 ≤ t'.val from hlt)
    rw [Nat.mul_add, Nat.mul_one] at this; omega
  · have := Nat.mul_le_mul_left w (show t'.val + 1 ≤ t.val from hlt)
    rw [Nat.mul_add, Nat.mul_one] at this; omega

theorem axis_cover {n : ℕ} (a : Fin sh.rank) (w : ℕ) (hw : 0 < w) (off : Fin n → Fin sh.rank → ℕ) (size : Fin sh.rank → ℕ)
    (hin : ∀ t b, off t b + size b ≤ sh.size b) (ho : ∀ t, off t a = w * t.val) (hs : size a = w) (hn : sh.size a = w * n)
    (hb : ∀ t b, b ≠ a → off t b = 0 ∧ size b = sh.size b) :
    (Finset.univ : Finset (Fin n)).biUnion (fun t => (Rect.unit (s := sh) (off t) size (hin t)).set) = Finset.univ := by
  refine Finset.eq_univ_of_forall fun i => Finset.mem_biUnion.mpr ?_
  have hi : (i a).val < w * n := hn ▸ (i a).isLt
  refine ⟨⟨(i a).val / w, (Nat.div_lt_iff_lt_mul hw).mpr (by rwa [Nat.mul_comm])⟩, Finset.mem_univ _, Rect.mem_set_unit.mpr fun b => ?_⟩
  by_cases hba : b = a
  · subst hba
    rw [ho, hs]
    have := Nat.div_add_mod (i b).val w
    have := Nat.mod_lt (i b).val hw
    constructor <;> simp only <;> omega
  · rw [(hb _ b hba).1, (hb ⟨(i a).val / w, (Nat.div_lt_iff_lt_mul hw).mpr (by rwa [Nat.mul_comm])⟩ b hba).2]
    exact ⟨Nat.zero_le _, by rw [Nat.zero_add]; exact (i b).isLt⟩

variable [∀ e, Nonempty (Val e)] (m : Memref sig c.2.kind sp sh e) (q : PosShare TreeShare)

/-- The slices of a disjoint covering family, each held at something: the memref is held at something. -/
theorem owns_glue (r : T → Rect sh) (hr : ∀ t a, (r t).stride a = 1) (hd : ∀ t t', t ≠ t' → Disjoint (r t).set (r t').set)
    (hcov : (Finset.univ : Finset T).biUnion (fun t => (r t).set) = Finset.univ) :
    (BI.bigSep Finset.univ (fun t => iprop(∃ G, owns c (m.slice (r t) (hr t)) q G)) : sProp 𝕄) ⊢ iprop(∃ X, owns c m q X) := by
  refine (BI.bigSep_exists_pi _ _).trans ?_
  iintro ⟨%G, H⟩
  obtain ⟨X, hX⟩ := glue r hd hcov G
  iexists X
  have h := owns_of_rects (Ix := Ix) (Name := Name) (U := U) (Lvl := Lvl) c m q r hr hd hcov X
  rw [show (fun t => (owns c (m.slice (r t) (hr t)) q (fun j => X ((r t).emb j)) : sProp 𝕄)) = fun t => owns c (m.slice (r t) (hr t)) q (G t) from
    funext fun t => congrArg _ (funext fun j => hX t j)] at h
  iapply h; iexact H

end Families

end Cert.Own

end
-- ==== Proof.Vals.lean ====
/-
The contents of the kernel's buffers, device by device: what the copies of the keys and values bring in, what each block of
query rows comes to on one device's heads, and the running sums that go around the ring.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Own

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = prv (prv c) := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = prv c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = prv c := Fin.ext (k0_dev9_eq c)

/-! ## The memrefs -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kA : Memref sig .tc .hbm S1x2048x8x128 .f32 := Memref.whole main_arg2
abbrev vA : Memref sig .tc .hbm S1x2048x8x128 .f32 := Memref.whole main_arg3
abbrev outM : Memref sig .tc .vmem S1x512x1024 .f32 := Memref.whole cc0_stg3_0
abbrev attnM : Memref sig .tc .vmem S128x1024 .f32 := Memref.whole cc0_scratch0
abbrev pM : Memref sig .tc .vmem S4x128x1024 .f32 := Memref.whole cc0_scratch1
abbrev kvM : Memref sig .tc .vmem S8x2048x128 .f32 := Memref.whole cc0_scratch2
abbrev vvM : Memref sig .tc .vmem S8x2048x128 .f32 := Memref.whole cc0_scratch3
abbrev sM : Memref sig .tc .vmem S2x128x1024 .f32 := Memref.whole cc0_scratch4
abbrev rM : Memref sig .tc .vmem S3x128x1024 .f32 := Memref.whole cc0_scratch5
abbrev finM : Memref sig .tc .vmem S128x1024 .f32 := Memref.whole cc0_scratch6
abbrev aglM : Memref sig .tc .vmem S128x1024 .f32 := Memref.whole cc0_scratch7
abbrev agrM : Memref sig .tc .vmem S128x1024 .f32 := Memref.whole cc0_scratch8
abbrev agdM : Memref sig .tc .vmem S128x1024 .f32 := Memref.whole cc0_scratch9

theorem inbSlot (h : Fin 8) : ∀ a, (![h.val, 0, 0] : Fin 3 → ℕ) a + S1x2048x128.size a ≤ S8x2048x128.size a := by revert h; decide
theorem inbSrc (h : Fin 8) : ∀ a, (![0, 0, h.val, 0] : Fin 4 → ℕ) a + S1x2048x1x128.size a ≤ S1x2048x8x128.size a := by revert h; decide
theorem inbP (r : Fin 4) : ∀ a, (![r.val, 0, 0] : Fin 3 → ℕ) a + S1x128x1024.size a ≤ S4x128x1024.size a := by revert r; decide
theorem inbS (r : Fin 2) : ∀ a, (![r.val, 0, 0] : Fin 3 → ℕ) a + S1x128x1024.size a ≤ S2x128x1024.size a := by revert r; decide
theorem inbR (r : Fin 3) : ∀ a, (![r.val, 0, 0] : Fin 3 → ℕ) a + S1x128x1024.size a ≤ S3x128x1024.size a := by revert r; decide
theorem inbHalf (r : Fin 2) : ∀ a, (![0, 512 * r.val] : Fin 2 → ℕ) a + S128x512.size a ≤ S128x1024.size a := by revert r; decide
theorem inbCol (h : Fin 8) : ∀ a, (![0, 128 * h.val] : Fin 2 → ℕ) a + S128x128.size a ≤ S128x1024.size a := by revert h; decide

abbrev slotRect (h : Fin 8) : Rect S8x2048x128 := Rect.unit (s := S8x2048x128) ![h.val, 0, 0] S1x2048x128.size (inbSlot h)
abbrev srcRect (h : Fin 8) : Rect S1x2048x8x128 := Rect.unit (s := S1x2048x8x128) ![0, 0, h.val, 0] S1x2048x1x128.size (inbSrc h)
abbrev pRect (r : Fin 4) : Rect S4x128x1024 := Rect.unit (s := S4x128x1024) ![r.val, 0, 0] S1x128x1024.size (inbP r)
abbrev sRect (r : Fin 2) : Rect S2x128x1024 := Rect.unit (s := S2x128x1024) ![r.val, 0, 0] S1x128x1024.size (inbS r)
abbrev rRect (r : Fin 3) : Rect S3x128x1024 := Rect.unit (s := S3x128x1024) ![r.val, 0, 0] S1x128x1024.size (inbR r)
abbrev halfRect (r : Fin 2) : Rect S128x1024 := Rect.unit (s := S128x1024) ![0, 512 * r.val] S128x512.size (inbHalf r)
abbrev colRect (h : Fin 8) : Rect S128x1024 := Rect.unit (s := S128x1024) ![0, 128 * h.val] S128x128.size (inbCol h)

/-- Head `h`'s slot of the staged keys, and of the staged values. -/
abbrev kSl (h : Fin 8) : Memref sig .tc .vmem S1x2048x128 .f32 := kvM.slice (slotRect h) (fun _ => rfl)
abbrev vSl (h : Fin 8) : Memref sig .tc .vmem S1x2048x128 .f32 := vvM.slice (slotRect h) (fun _ => rfl)
/-- Head `h`'s part of the keys' array, and of the values'. -/
abbrev kSrc (h : Fin 8) : Memref sig .tc .hbm S1x2048x1x128 .f32 := kA.slice (srcRect h) (fun _ => rfl)
abbrev vSrc (h : Fin 8) : Memref sig .tc .hbm S1x2048x1x128 .f32 := vA.slice (srcRect h) (fun _ => rfl)
/-- The rows of the partial products, of the sums to send, of the sums received. -/
abbrev pSl (r : Fin 4) : Memref sig .tc .vmem S1x128x1024 .f32 := pM.slice (pRect r) (fun _ => rfl)
abbrev sSl (r : Fin 2) : Memref sig .tc .vmem S1x128x1024 .f32 := sM.slice (sRect r) (fun _ => rfl)
abbrev rSl (r : Fin 3) : Memref sig .tc .vmem S1x128x1024 .f32 := rM.slice (rRect r) (fun _ => rfl)
/-- A row, as the copies name it. -/
abbrev sqRow (M : Memref sig .tc .vmem S1x128x1024 .f32) : Memref sig .tc .vmem S128x1024 .f32 := M.squeeze S128x1024 squeezes_S1x128x1024_S128x1024
abbrev sqSlot (M : Memref sig .tc .vmem S1x2048x128 .f32) : Memref sig .tc .vmem S2048x128 .f32 := M.squeeze S2048x128 squeezes_S1x2048x128_S2048x128
abbrev sqSrc (M : Memref sig .tc .hbm S1x2048x1x128 .f32) : Memref sig .tc .hbm S2048x128 .f32 := M.squeeze S2048x128 squeezes_S1x2048x1x128_S2048x128
/-- Half of the columns of a gathered block. -/
abbrev aglH (r : Fin 2) : Memref sig .tc .vmem S128x512 .f32 := aglM.slice (halfRect r) (fun _ => rfl)
abbrev agrH (r : Fin 2) : Memref sig .tc .vmem S128x512 .f32 := agrM.slice (halfRect r) (fun _ => rfl)
abbrev agdH (r : Fin 2) : Memref sig .tc .vmem S128x512 .f32 := agdM.slice (halfRect r) (fun _ => rfl)

/-! ## The contents -/

/-- A row's contents read as the copies read them, and back. -/
def sq (X : Vec F S1x128x1024 .f32) : Vec F S128x1024 .f32 := fun i => X (Shape.reshapeEquiv squeezes_S1x128x1024_S128x1024.numel_eq i)
def unsq (X : Vec F S128x1024 .f32) : Vec F S1x128x1024 .f32 := fun i => X ((Shape.reshapeEquiv squeezes_S1x128x1024_S128x1024.numel_eq).symm i)
theorem unsq_sq (X : Vec F S1x128x1024 .f32) : unsq (sq X) = X := by
  funext i; unfold unsq sq; rw [Equiv.apply_symm_apply]

theorem slicesCol (h : Fin 8) : S128x1024.Slices ![0, 128 * h.val] S128x128 := by revert h; decide
/-- One head's columns of the queries. -/
def qCol (h : Fin 8) (q : FVec F S128x1024 .f32) : FVec F S128x128 .f32 :=
  extractStridedSlice S128x128 ![0, 128 * h.val] q (slicesCol h)

/-- One head's attention on a block of query rows: the exponentials of the scores weigh the values, divided by their sum. -/
def headOut (q : FVec F S128x128 .f32) (k v : Vec F S1x2048x128 .f32) : FVec F S128x128 .f32 :=
  have k' : FVec F S2048x128 .f32 := shapeCast S2048x128 k shapeCasts_S1x2048x128_S2048x128
  have s : FVec F S128x2048 .f32 := matmul dot_S128x128_S2048x128_S128x2048_1_1_0_0_n_n none q k' (constant S128x2048 .f32 0x00000000#32)
  have p : FVec F S128x2048 .f32 := exp s
  have l : FVec F S128 .f32 := multiReduction .add [1] S128 p 0x00000000#32 reduces_S128x2048_S128 (.inl rfl) rfl
  have v' : FVec F S2048x128 .f32 := shapeCast S2048x128 v shapeCasts_S1x2048x128_S2048x128
  have o : FVec F S128x128 .f32 := matmul dot_S128x2048_S2048x128_S128x128_1_0_0_1_n_n none p v' (constant S128x128 .f32 0x00000000#32)
  shapeCast S128x128 (divf o (broadcastTo S128x128 (shapeCast S128x1 l shapeCasts_S128_S128x1) broadcasts_S128x1_S128x128)) shapeCasts_S128x128_S128x128

variable (m : (ℓ : Loc nD τ sig) → Buf (Elt F) ℓ)

/-- The staged inputs of device `c`. -/
def xS (c : Dev nD) : Vec F S1x512x1024 .f32 := iblk m c 0 t0_0
def wqS (c : Dev nD) : Vec F S1024x1024 .f32 := iblk m c 1 t0_0
def woS (c : Dev nD) : Vec F S1024x1024 .f32 := iblk m c 2 t0_0
def kW (c : Dev nD) : Vec F S1x2048x8x128 .f32 := m ((c : Thread nD τ).loc main_arg2)
def vW (c : Dev nD) : Vec F S1x2048x8x128 .f32 := m ((c : Thread nD τ).loc main_arg3)

/-- Head `h`'s keys and values, as the copies read them. -/
def kC (c : Dev nD) (h : Fin 8) : Vec F S2048x128 .f32 :=
  fun i => kW m c ((srcRect h).emb (Shape.reshapeEquiv squeezes_S1x2048x1x128_S2048x128.numel_eq i))
def vC (c : Dev nD) (h : Fin 8) : Vec F S2048x128 .f32 :=
  fun i => vW m c ((srcRect h).emb (Shape.reshapeEquiv squeezes_S1x2048x1x128_S2048x128.numel_eq i))
/-- And as they stand in their slots. -/
def kV (c : Dev nD) (h : Fin 8) : Vec F S1x2048x128 .f32 := fun i => kC m c h ((Shape.reshapeEquiv squeezes_S1x2048x128_S2048x128.numel_eq).symm i)
def vV (c : Dev nD) (h : Fin 8) : Vec F S1x2048x128 .f32 := fun i => vC m c h ((Shape.reshapeEquiv squeezes_S1x2048x128_S2048x128.numel_eq).symm i)

/-- The block of query rows `r` blocks after the device's own. -/
def xRow (c : Dev nD) (r : Fin 4) : Vec F S1x128x1024 .f32 :=
  fun i => xS m c ((Rect.unit (s := S1x512x1024) (k0_off1 c (BitVec.ofNat 32 r.val)) S1x128x1024.size (k0_off1_inb c r)).emb i)
/-- Its scaled queries for the device's heads. -/
def qB (c : Dev nD) (r : Fin 4) : FVec F S128x1024 .f32 := k0_pay2 (xRow m c r) (wqS m c)
/-- One head's attention. -/
def head (c : Dev nD) (r : Fin 4) (h : Fin 8) : FVec F S128x128 .f32 := headOut (qCol h (qB m c r)) (kV m c h) (vV m c h)
set_option backward.proofsInPublic true in
/-- The heads side by side. -/
def attn (c : Dev nD) (r : Fin 4) : Vec F S128x1024 .f32 := fun i =>
  head m c r ⟨(i 1).val / 128, by have : (i 1).val < 1024 := (i 1).isLt; omega⟩
    (fun a => match a with | ⟨0, _⟩ => i 0 | ⟨1, _⟩ => ⟨(i 1).val % 128, Nat.mod_lt _ (by decide)⟩)
/-- The heads' partial product. -/
def part (c : Dev nD) (r : Fin 4) : Vec F S1x128x1024 .f32 := k0_pay11 (attn m c r) (woS m c)

/-- What goes around the ring: device `c` receives `R0`, `R1`, `R2` and sends on `S0`, `S1`. -/
def R0 (c : Dev nD) : Vec F S128x1024 .f32 := sq (part m (prv c) 3)
def S0 (c : Dev nD) : Vec F S1x128x1024 .f32 := k0_pay29 (k0_pay28 (unsq (R0 m c))) (part m c 2)
def R1 (c : Dev nD) : Vec F S128x1024 .f32 := sq (S0 m (prv c))
def S1 (c : Dev nD) : Vec F S1x128x1024 .f32 := k0_pay44 (unsq (R1 m c)) (part m c 1)
def R2 (c : Dev nD) : Vec F S128x1024 .f32 := sq (S1 m (prv c))
/-- Device `c`'s block of the sum. -/
def fin (c : Dev nD) : Vec F S128x1024 .f32 := k0_pay60 (unsq (R2 m c)) (part m c 0)
/-- Half of its columns. -/
def finH (c : Dev nD) (r : Fin 2) : Vec F S128x512 .f32 := fun i => fin m c ((halfRect r).emb i)
set_option backward.proofsInPublic true in
/-- The result: block `b` of its rows is device `b`'s sum. -/
def outV : Vec F S1x512x1024 .f32 := fun i =>
  fin m ⟨(i 1).val / 128, by have : (i 1).val < 512 := (i 1).isLt; show _ < 4; omega⟩
    (fun a => match a with | ⟨0, _⟩ => ⟨(i 1).val % 128, Nat.mod_lt _ (by decide)⟩ | ⟨1, _⟩ => i 2)

end Cert.Attn

end
-- ==== Proof.KerVal.lean ====
/-
The kernel's result read at an index.
-/
module

public import proofs.«01_k».proof.Proof.Softmax
public import proofs.«01_k».proof.Proof.Vals
public import Idealize.ShloMosaic.Lib.Pointwise
public import Idealize.ShloMosaic.Lib.ValueLayout
public import Idealize.ShloMosaic.Lib.Pipeline.ValueKit.Geometry

@[expose] public section

noncomputable section

namespace Cert.Attn

open Cert.KernelIdeal Cert.KernelIdeal.Gen
open Idealize.ShloMosaic Idealize.ShloMosaic.TcCoe

theorem pay2_apply (x : Vec Ideal S1x128x1024 .f32) (w : Vec Ideal S1024x1024 .f32) (i : Fin 128) (k : Fin 1024) :
    k0_pay2 x w (ix2 i k) = (∑ d : Fin 1024, x (ix3 0 i d) * w (ix2 d k)) * Ideal.ofBits .f32 0x3DB504F3#32 := by
  unfold k0_pay2
  pointwise

theorem qCol_apply (h : Fin 8) (q : FVec Ideal S128x1024 .f32) (i e : Fin 128) :
    qCol h q (ix2 i e) = q (ix2 i ⟨h.val * 128 + e.val, by omega⟩) := by
  unfold qCol
  pointwise
  exact congrArg q (congrArg (ix2 i) (Fin.ext (by show 128 * h.val + e.val = h.val * 128 + e.val; omega)))

theorem headOut_apply (q : FVec Ideal S128x128 .f32) (k v : Vec Ideal S1x2048x128 .f32) (i e : Fin 128) :
    headOut q k v (ix2 i e) = Ideal.div (∑ j : Fin 2048, Ideal.exp (∑ e' : Fin 128, q (ix2 i e') * k (ix3 0 j e')) * v (ix3 0 j e))
      (∑ j : Fin 2048, Ideal.exp (∑ e' : Fin 128, q (ix2 i e') * k (ix3 0 j e'))) := by
  unfold headOut
  pointwise

theorem pay11_apply (a : Vec Ideal S128x1024 .f32) (w : Vec Ideal S1024x1024 .f32) (i : Fin 128) (n : Fin 1024) :
    k0_pay11 a w (ix3 0 i n) = ∑ k : Fin 1024, a (ix2 i k) * w (ix2 k n) := by
  unfold k0_pay11
  pointwise

theorem pay29_apply (x y : Vec Ideal S1x128x1024 .f32) (i : Fin 128) (n : Fin 1024) :
    k0_pay29 (k0_pay28 x) y (ix3 0 i n) = x (ix3 0 i n) + y (ix3 0 i n) := by
  unfold k0_pay29 k0_pay28
  pointwise

theorem pay44_apply (x y : Vec Ideal S1x128x1024 .f32) (i : Fin 128) (n : Fin 1024) :
    k0_pay44 x y (ix3 0 i n) = x (ix3 0 i n) + y (ix3 0 i n) := by
  unfold k0_pay44
  pointwise

theorem pay60_apply (x y : Vec Ideal S1x128x1024 .f32) (i : Fin 128) (n : Fin 1024) :
    k0_pay60 x y (ix2 i n) = x (ix3 0 i n) + y (ix3 0 i n) := by
  unfold k0_pay60
  pointwise

section
variable {F : FTy → Type} [FloatOps F] (m : (ℓ : Loc nD τ sig) → Buf (Elt F) ℓ)

theorem xS_eq (c : Dev nD) : xS m c = m ((c : Thread nD τ).loc main_arg0) := by
  funext i
  exact congrArg (m ((c : Thread nD τ).loc main_arg0)) (funext fun a => Fin.ext
    ((cfg0.win 0).rect_emb_val_of_index_zero t0_0 a (by revert a; decide) i))
theorem wqS_eq (c : Dev nD) : wqS m c = m ((c : Thread nD τ).loc main_arg1) := by
  funext i
  exact congrArg (m ((c : Thread nD τ).loc main_arg1)) (funext fun a => Fin.ext
    ((cfg0.win 1).rect_emb_val_of_index_zero t0_0 a (by revert a; decide) i))
theorem woS_eq (c : Dev nD) : woS m c = m ((c : Thread nD τ).loc main_arg4) := by
  funext i
  exact congrArg (m ((c : Thread nD τ).loc main_arg4)) (funext fun a => Fin.ext
    ((cfg0.win 2).rect_emb_val_of_index_zero t0_0 a (by revert a; decide) i))

theorem kW_at (X : Vec F S1x2048x8x128 .f32) (h : Fin 8) (j : Fin 2048) (e : Fin 128) :
    X ((srcRect h).emb (Shape.reshapeEquiv squeezes_S1x2048x1x128_S2048x128.numel_eq
      ((Shape.reshapeEquiv squeezes_S1x2048x128_S2048x128.numel_eq).symm (ix3 0 j e)))) = X (ix4 0 j h e) := by
  have e1 : (Shape.reshapeEquiv squeezes_S1x2048x128_S2048x128.numel_eq).symm (ix3 0 j e : S1x2048x128.Idx) = (ix2 j e : S2048x128.Idx) := by
    rw [Equiv.symm_apply_eq]
    refine (Shape.reshapeEquiv_eq_of_rowMajor _ ?_).symm
    rw [Shape.rowMajor_val_three, Shape.rowMajor_val_two]
    show ((0 * 2048 + j.val) * 128 + e.val) = j.val * 128 + e.val
    simp only [Nat.zero_mul, Nat.zero_add]
  have e2 : Shape.reshapeEquiv squeezes_S1x2048x1x128_S2048x128.numel_eq (ix2 j e : S2048x128.Idx) = (ix4 0 j 0 e : S1x2048x1x128.Idx) := by
    refine Shape.reshapeEquiv_eq_of_rowMajor _ ?_
    rw [Shape.rowMajor_val_four, Shape.rowMajor_val_two]
    show (((0 * 2048 + j.val) * 1 + 0) * 128 + e.val) = j.val * 128 + e.val
    omega
  rw [e1, e2]
  refine congrArg X (funext fun a => Fin.ext ?_)
  rw [ValueKit.rect_emb_unit_val]
  fin_cases a
  · exact Nat.zero_add _
  · exact Nat.zero_add _
  · exact Nat.add_zero _
  · exact Nat.zero_add _
theorem kV_apply (c : Dev nD) (h : Fin 8) (j : Fin 2048) (e : Fin 128) :
    kV m c h (ix3 0 j e) = m ((c : Thread nD τ).loc main_arg2) (ix4 0 j h e) := kW_at _ h j e
theorem vV_apply (c : Dev nD) (h : Fin 8) (j : Fin 2048) (e : Fin 128) :
    vV m c h (ix3 0 j e) = m ((c : Thread nD τ).loc main_arg3) (ix4 0 j h e) := kW_at _ h j e

/-- The row of the input that row `i` of a device's block of rows `r` is. -/
def rowAt (c : Dev nD) (r : Fin 4) (i : Fin 128) : Fin 512 := ⟨128 * ((c.val + r.val) % 4) + i.val, by have := i.isLt; omega⟩

theorem xRow_apply (c : Dev nD) (r : Fin 4) (i : Fin 128) (d : Fin 1024) :
    xRow m c r (ix3 0 i d) = m ((c : Thread nD τ).loc main_arg0) (ix3 0 (rowAt c r i) d) := by
  unfold xRow
  rw [xS_eq]
  refine congrArg (m ((c : Thread nD τ).loc main_arg0)) (funext fun a => Fin.ext ?_)
  rw [ValueKit.rect_emb_unit_val]
  refine (congrArg (· + ((ix3 0 i d : S1x128x1024.Idx) a).val) (congrFun (k0_off1_eq c r) a)).trans ?_
  fin_cases a
  · exact Nat.zero_add _
  · rfl
  · exact Nat.zero_add _

theorem sq_apply (X : Vec F S1x128x1024 .f32) (i : Fin 128) (n : Fin 1024) : sq X (ix2 i n) = X (ix3 0 i n) :=
  congrArg X (ValueIdx.reshapeEquiv_ix2_1ab _ i n)
theorem unsq_apply (X : Vec F S128x1024 .f32) (i : Fin 128) (n : Fin 1024) : unsq X (ix3 0 i n) = X (ix2 i n) :=
  congrArg X ((Equiv.symm_apply_eq _).mpr (ValueIdx.reshapeEquiv_ix2_1ab _ i n).symm)

theorem attn_apply (c : Dev nD) (r : Fin 4) (i : Fin 128) (k : Fin 1024) :
    attn m c r (ix2 i k) = head m c r ⟨k.val / 128, by omega⟩ (ix2 i ⟨k.val % 128, by omega⟩) :=
  congrArg (head m c r _) (funext fun a => by fin_cases a <;> rfl)

theorem outV_apply (i : Fin 512) (n : Fin 1024) :
    outV m (ix3 0 i n) = fin m ⟨i.val / 128, by show _ < 4; omega⟩ (ix2 ⟨i.val % 128, by omega⟩ n) :=
  congrArg (fin m _) (funext fun a => by fin_cases a <;> rfl)
end

/-! ## One device's share of the result -/

section
variable (X : Vec Ideal S1x512x1024 .f32) (W : Vec Ideal S1024x1024 .f32) (K V : Vec Ideal S1x2048x8x128 .f32) (O : Vec Ideal S1024x1024 .f32)
/-- A score: the query scaled first. -/
def kScore (h : Fin 8) (p : Fin 512) (j : Fin 2048) : EReal :=
  ∑ e : Fin 128, ((∑ d : Fin 1024, X (ix3 0 p d) * W (ix2 d ⟨h.val * 128 + e.val, by omega⟩)) * Ideal.ofBits .f32 0x3DB504F3#32) * K (ix4 0 j h e)
/-- A head's result. -/
def kHead (h : Fin 8) (p : Fin 512) (e : Fin 128) : EReal :=
  Ideal.div (∑ j : Fin 2048, Ideal.exp (kScore X W K h p j) * V (ix4 0 j h e)) (∑ j : Fin 2048, Ideal.exp (kScore X W K h p j))
/-- The device's product. -/
def kPart (p : Fin 512) (n : Fin 1024) : EReal :=
  ∑ k : Fin 1024, kHead X W K V ⟨k.val / 128, by omega⟩ p ⟨k.val % 128, by omega⟩ * O (ix2 k n)
end

section
variable (m : (ℓ : Loc nD τ sig) → Buf (Elt Ideal) ℓ)
/-- Device `c`'s share. -/
def share (c : Dev nD) (p : Fin 512) (n : Fin 1024) : EReal :=
  kPart (m ((c : Thread nD τ).loc main_arg0)) (m ((c : Thread nD τ).loc main_arg1)) (m ((c : Thread nD τ).loc main_arg2))
    (m ((c : Thread nD τ).loc main_arg3)) (m ((c : Thread nD τ).loc main_arg4)) p n

theorem head_apply (c : Dev nD) (r : Fin 4) (h : Fin 8) (i e : Fin 128) :
    head m c r h (ix2 i e) = kHead (m ((c : Thread nD τ).loc main_arg0)) (m ((c : Thread nD τ).loc main_arg1)) (m ((c : Thread nD τ).loc main_arg2))
      (m ((c : Thread nD τ).loc main_arg3)) h (rowAt c r i) e := by
  unfold head kHead kScore
  rw [headOut_apply]
  simp only [qCol_apply, qB, pay2_apply, kV_apply, vV_apply, xRow_apply, wqS_eq]

theorem part_apply (c : Dev nD) (r : Fin 4) (i : Fin 128) (n : Fin 1024) : part m c r (ix3 0 i n) = share m c (rowAt c r i) n := by
  unfold part share kPart
  rw [pay11_apply]
  simp only [attn_apply, head_apply, woS_eq]

theorem rowAt_prv (c : Dev nD) (i : Fin 128) : rowAt (prv c) 1 i = rowAt c 0 i ∧ rowAt (prv (prv c)) 2 i = rowAt c 0 i ∧ rowAt (prv (prv (prv c))) 3 i = rowAt c 0 i := by
  have h : (((prv c).val + 1) % 4 = (c.val + 0) % 4) ∧ ((prv (prv c)).val + 2) % 4 = (c.val + 0) % 4 ∧ ((prv (prv (prv c))).val + 3) % 4 = (c.val + 0) % 4 := by
    revert c; decide
  exact ⟨Fin.ext (congrArg (128 * · + i.val) h.1), Fin.ext (congrArg (128 * · + i.val) h.2.1), Fin.ext (congrArg (128 * · + i.val) h.2.2)⟩

theorem fin_apply (c : Dev nD) (i : Fin 128) (n : Fin 1024) : fin m c (ix2 i n) = ∑ d : Dev nD, share m d (rowAt c 0 i) n := by
  have e : fin m c (ix2 i n) = ((share m (prv (prv (prv c))) (rowAt c 0 i) n + share m (prv (prv c)) (rowAt c 0 i) n) + share m (prv c) (rowAt c 0 i) n)
      + share m c (rowAt c 0 i) n := by
    unfold fin R2 S1 R1 S0 R0
    simp only [pay60_apply, pay44_apply, pay29_apply, unsq_apply, sq_apply, part_apply, (rowAt_prv c i).1, (rowAt_prv c i).2.1, (rowAt_prv c i).2.2]
  rw [e]; clear e
  generalize rowAt c 0 i = p
  refine Eq.trans ?_ (Fin.sum_univ_four fun d : Fin 4 => share m d p n).symm
  have hc : c = (0 : Fin 4) ∨ c = (1 : Fin 4) ∨ c = (2 : Fin 4) ∨ c = (3 : Fin 4) := by revert c; decide
  have p0 : prv (0 : Fin 4) = (3 : Fin 4) := by decide
  have p1 : prv (1 : Fin 4) = (0 : Fin 4) := by decide
  have p2 : prv (2 : Fin 4) = (1 : Fin 4) := by decide
  have p3 : prv (3 : Fin 4) = (2 : Fin 4) := by decide
  rcases hc with rfl | rfl | rfl | rfl <;> simp only [p0, p1, p2, p3] <;> abel

/-- The kernel's result: the sum of the devices' shares. -/
theorem outV_eq (p : Fin 512) (n : Fin 1024) : outV m (ix3 0 p n) = ∑ d : Dev nD, share m d p n := by
  rw [outV_apply, fin_apply]
  have : rowAt (⟨p.val / 128, by show _ < 4; omega⟩ : Dev nD) 0 ⟨p.val % 128, by omega⟩ = p := Fin.ext (by
    show 128 * ((p.val / 128 + 0) % 4) + p.val % 128 = p.val
    have := p.isLt; omega)
  rw [this]
end

end Cert.Attn
-- ==== Proof.Sched.lean ====
/-
The kernel's semaphores, as one table of cells: what each cell is paid, by whom, what comes with the payment, and the order the
waits stand in. Then one rule for each thing the body does with a semaphore.

Every device has a barrier cell, a cell for each of the eight heads' copies of keys and of values, and a send and a receive cell
for each of its seven transfers. Each is used once.
-/
module

public import proofs.«01_k».proof.Proof.Vals
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- The barrier; head `h`'s keys; head `h`'s values; transfer `t`'s source; transfer `t`'s landing. Transfers 0, 1, 2 are the
    steps of the reduction, 3 and 4 the first of the gathering (to the right and to the left), 5 and 6 the second. -/
abbrev Cell : Type := Option (Fin 8 ⊕ Fin 8 ⊕ Fin 7 ⊕ Fin 7)
abbrev bar : Cell := none
abbrev kst (h : Fin 8) : Cell := some (.inl h)
abbrev vst (h : Fin 8) : Cell := some (.inr (.inl h))
abbrev snd (t : Fin 7) : Cell := some (.inr (.inr (.inl t)))
abbrev rcv (t : Fin 7) : Cell := some (.inr (.inr (.inr t)))

abbrev barS : Sem sig := (SemArray.scalar (sig.barrier 0 rfl) : Sems sig S_).sem

def csem : Cell → SemLoc sig
  | none => .reg barS
  | some (.inl h) => .dma ⟨4 + h.val, by have := h.isLt; show _ < 34; omega⟩
  | some (.inr (.inl h)) => .dma ⟨12 + h.val, by have := h.isLt; show _ < 34; omega⟩
  | some (.inr (.inr (.inl t))) => .dma ⟨if t.val < 3 then 20 + t.val else 23 + t.val, by have := t.isLt; show _ < 34; split <;> omega⟩
  | some (.inr (.inr (.inr t))) => .dma ⟨if t.val < 3 then 23 + t.val else 27 + t.val, by have := t.isLt; show _ < 34; split <;> omega⟩

/-- Which cell a semaphore is. -/
def idx (s : SemLoc sig) : Option Cell := (Finset.univ : Finset Cell).toList.find? fun k => decide (csem k = s)

theorem csem_injective : Function.Injective csem := by decide

theorem idx_csem (k : Cell) : idx (csem k) = some k := by
  unfold idx
  cases h : (Finset.univ : Finset Cell).toList.find? fun k' => decide (csem k' = csem k) with
  | none => exact absurd (List.find?_eq_none.mp h k (Finset.mem_toList.mpr (Finset.mem_univ k))) (by simp)
  | some k' =>
    have h' := List.find?_some h
    rw [csem_injective (of_decide_eq_true h')]

abbrev kcell (ck : Dev nD × Cell) : GSem nD τ sig := ((ck.1 : Thread nD τ), csem ck.2)

theorem kcell_injective : Function.Injective kcell := by
  intro a b h
  have h1 : a.1 = b.1 := congrArg (fun g : GSem nD τ sig => g.1.1) h
  have h2 : csem a.2 = csem b.2 := congrArg (fun g : GSem nD τ sig => g.2) h
  exact Prod.ext h1 (csem_injective h2)

/-! ## Amounts, levels, the parties -/

abbrev NS : ℕ := (sqSlot (kSl 0)).view.dmaCredit
abbrev NF : ℕ := aglM.view.dmaCredit
abbrev NH : ℕ := (agdH 0).view.dmaCredit

def amtX (t : Fin 7) : ℕ := match t with
  | 0 => NF | 1 => NF | 2 => NF | 3 => NF | 4 => NF | 5 => NH | 6 => NH

def amtC : Cell → ℕ
  | none => 1
  | some (.inl _) => NS
  | some (.inr (.inl _)) => NS
  | some (.inr (.inr (.inl t))) => amtX t
  | some (.inr (.inr (.inr t))) => amtX t

theorem amtX_pos (t : Fin 7) : 0 < amtX t := by
  have hF : 0 < NF := View.dmaCredit_pos _ (by decide)
  have hH : 0 < NH := View.dmaCredit_pos _ (by decide)
  fin_cases t <;> assumption

theorem amtC_pos (k : Cell) : 0 < amtC k := by
  have hS : 0 < NS := View.dmaCredit_pos _ (by decide)
  rcases k with _ | h | h | t | t
  · exact Nat.one_pos
  · exact hS
  · exact hS
  · exact amtX_pos t
  · exact amtX_pos t

def dutC : Cell → Finset Bool
  | none => Finset.univ
  | some _ => {false}

/-- What the whole of a cell's round comes to. -/
def totC : Cell → ℕ
  | none => 2
  | some k => amtC (some k)

def lvC : Cell → ℕ
  | none => 1
  | some (.inl _) => 0
  | some (.inr (.inl _)) => 0
  | some (.inr (.inr (.inl _))) => 0
  | some (.inr (.inr (.inr t))) => match t with
    | 0 => 2 | 1 => 3 | 2 => 4 | 3 => 5 | 4 => 5 | 5 => 6 | 6 => 6

/-- Whom transfer `t` goes to. -/
def tgt (t : Fin 7) (c : Dev nD) : Dev nD := match t with
  | 0 => nxt c | 1 => nxt c | 2 => nxt c | 3 => nxt c | 4 => prv c | 5 => nxt c | 6 => prv c

/-- A device's payments to others: its two signals (`true` to the device before it, `false` to the one after), its transfers. -/
abbrev Pay : Type := Bool ⊕ Fin 7
def payee : Pay → Dev nD → Dev nD
  | .inl true => prv
  | .inl false => nxt
  | .inr t => tgt t
def payCell : Pay → Cell
  | .inl _ => bar
  | .inr t => rcv t
def payDuty : Pay → Bool
  | .inl b => b
  | .inr _ => false

theorem nxt_injective : Function.Injective nxt := Function.LeftInverse.injective prv_nxt
theorem prv_injective : Function.Injective prv := Function.LeftInverse.injective nxt_prv
theorem payee_injective (j : Pay) : Function.Injective (payee j) := by
  rcases j with (_ | _) | t
  · exact nxt_injective
  · exact prv_injective
  · fin_cases t
    · exact nxt_injective
    · exact nxt_injective
    · exact nxt_injective
    · exact nxt_injective
    · exact prv_injective
    · exact nxt_injective
    · exact prv_injective

/-! ## What comes with each payment -/

section Payloads

variable (m : (ℓ : Loc nD τ sig) → Buf (Elt F) ℓ)

/-- A memref of device `c` held whole, whatever it holds. -/
abbrev free (c : Dev nD) {sp : Space} {s : Shape} (M : Memref sig .tc sp s .f32) : sProp 𝕄 := iprop(∃ X, owns (c : Thread nD τ) M fullShare X)
/-- Held whole at contents `X`. -/
abbrev at_ (c : Dev nD) {sp : Space} {s : Shape} (M : Memref sig .tc sp s .f32) (X : Vec F s .f32) : sProp 𝕄 := owns (c : Thread nD τ) M fullShare X

/-- What device `c`'s signal to the device before it hands over: where that device's transfers to the right land. -/
def handR (c : Dev nD) : sProp 𝕄 :=
  iprop(free c (sqRow (rSl 0)) ∗ free c (sqRow (rSl 1)) ∗ free c (sqRow (rSl 2)) ∗ free c aglM ∗ free c (agdH 0))
/-- And to the device after it: where its transfers to the left land. -/
def handL (c : Dev nD) : sProp 𝕄 := iprop(free c agrM ∗ free c (agdH 1))

/-- What a transfer's source cell gives back. -/
def sndPay (c : Dev nD) (t : Fin 7) : sProp 𝕄 := match t with
  | 0 => at_ c (sqRow (pSl 3)) (sq (part m c 3))
  | 1 => at_ c (sqRow (sSl 0)) (sq (S0 m c))
  | 2 => at_ c (sqRow (sSl 1)) (sq (S1 m c))
  | 3 => owns (c : Thread nD τ) finM fullShare.left (fin m c)
  | 4 => owns (c : Thread nD τ) finM fullShare.right (fin m c)
  | 5 => at_ c (aglH 0) (finH m (prv c) 0)
  | 6 => at_ c (agrH 1) (finH m (nxt c) 1)
/-- What its landing cell gives. -/
def rcvPay (c : Dev nD) (t : Fin 7) : sProp 𝕄 := match t with
  | 0 => at_ c (sqRow (rSl 0)) (R0 m c)
  | 1 => at_ c (sqRow (rSl 1)) (R1 m c)
  | 2 => at_ c (sqRow (rSl 2)) (R2 m c)
  | 3 => at_ c aglM (fin m (prv c))
  | 4 => at_ c agrM (fin m (nxt c))
  | 5 => at_ c (agdH 0) (finH m (prv (prv c)) 0)
  | 6 => at_ c (agdH 1) (finH m (nxt (nxt c)) 1)

def payC (c : Dev nD) (k : Cell) (d : Bool) : sProp 𝕄 := match k with
  | none => match d with | true => handR (nxt c) | false => handL (prv c)
  | some (.inl h) => iprop(at_ c (sqSlot (kSl h)) (kC m c h) ∗ at_ c (sqSrc (kSrc h)) (kC m c h))
  | some (.inr (.inl h)) => iprop(at_ c (sqSlot (vSl h)) (vC m c h) ∗ at_ c (sqSrc (vSrc h)) (vC m c h))
  | some (.inr (.inr (.inl t))) => sndPay m c t
  | some (.inr (.inr (.inr t))) => rcvPay m c t

omit [FloatOps F] in
instance handR_storable (c : Dev nD) : BI.Storable (upEmb : UEmb _ 𝕄) (handR (F := F) c) := by unfold handR; infer_instance
omit [FloatOps F] in
instance handL_storable (c : Dev nD) : BI.Storable (upEmb : UEmb _ 𝕄) (handL (F := F) c) := by unfold handL; infer_instance
instance sndPay_storable (c : Dev nD) (t : Fin 7) : BI.Storable (upEmb : UEmb _ 𝕄) (sndPay m c t) := by
  fin_cases t <;> (unfold sndPay; infer_instance)
instance rcvPay_storable (c : Dev nD) (t : Fin 7) : BI.Storable (upEmb : UEmb _ 𝕄) (rcvPay m c t) := by
  fin_cases t <;> (unfold rcvPay; infer_instance)
instance payC_storable (c : Dev nD) (k : Cell) (d : Bool) : BI.Storable (upEmb : UEmb _ 𝕄) (payC m c k d) := by
  unfold payC
  (repeat' split) <;> infer_instance

/-- The schedule: one round, round 0, of every cell. -/
def Rd : Rounds.Schedule (GSem nD τ sig) Bool 𝕄 where
  duties g r := if r = 0 ∧ g.1.2 = .tc then (match idx g.2 with | some k => dutC k | none => ∅) else ∅
  unitless _ := False
  amount g _ _ := match idx g.2 with | some k => amtC k | none => 1
  payload g _ d := match idx g.2 with | some k => payC m g.1.1 k d | none => iprop(emp)
  amount_pos g _ _ _ := by
    split
    · exact amtC_pos _
    · exact Nat.one_pos

instance Rd_storable (g : GSem nD τ sig) (r : ℕ) (d : Bool) : BI.Storable (upEmb : UEmb _ 𝕄) ((Rd (F := F) m).payload g r d) := by
  show BI.Storable upEmb (match idx g.2 with | some k => payC m g.1.1 k d | none => iprop(emp))
  split <;> infer_instance

variable (c : Dev nD) (k : Cell)

theorem duties_at : (Rd m).duties (kcell (c, k)) 0 = dutC k := by
  dsimp only [Rd]; rw [if_pos ⟨rfl, rfl⟩, idx_csem]
theorem duties_later (g : GSem nD τ sig) : ∀ r, 1 ≤ r → (Rd m).duties g r = ∅ :=
  fun r hr => by dsimp only [Rd]; rw [if_neg fun h => by omega]
theorem amount_at (d : Bool) : (Rd m).amount (kcell (c, k)) 0 d = amtC k := by
  dsimp only [Rd]; rw [idx_csem]
theorem payload_at (d : Bool) : (Rd m).payload (kcell (c, k)) 0 d = payC m c k d := by
  dsimp only [Rd]; rw [idx_csem]
theorem expect_at : (Rd m).expect (kcell (c, k)) 0 = totC k := by
  unfold Schedule.expect Schedule.amountOf
  rw [duties_at, Finset.sum_congr rfl fun d _ => amount_at m c k d]
  rcases k with _ | k
  · show ∑ _d : Bool, 1 = 2
    rw [Finset.sum_const, Finset.card_univ, Fintype.card_bool, smul_eq_mul]
  · exact Finset.sum_singleton _ _

/-- All that comes with a cell's round. -/
def gain (c : Dev nD) : Cell → sProp 𝕄
  | none => iprop(handL (prv c) ∗ handR (nxt c))
  | some k => payC m c (some k) false

theorem rest_at : bigSep ((Rd m).duties (kcell (c, k)) 0 \ ∅) (fun d => (Rd m).payload (kcell (c, k)) 0 d) = gain m c k := by
  rw [Finset.sdiff_empty, duties_at]
  rcases k with _ | k
  · rw [show dutC none = Finset.univ from rfl, bigSep_univ_eq_bigSepL [false, true] (by decide) (by decide), bigSepL_cons_cons, bigSepL_singleton,
      payload_at, payload_at]
    rfl
  · rw [show dutC (some k) = {false} from rfl, bigSep_singleton, payload_at]
    rfl

end Payloads

/-! ## What a device owes, and the levels -/

/-- Owing the payments listed, the first of them next. -/
def owe (c : Dev nD) : List Pay → CellTallies nD τ sig Unit
  | [] => 0
  | j :: js => owe c js + tallyAt (kcell (payee j c, payCell j)) () (amtC (payCell j))

def L (g : GSem nD τ sig) : Finset Unit := if g.1.2 = .tc then {()} else ∅
def lv (g : GSem nD τ sig) (_ : Unit) : ℕ := match idx g.2 with | some k => lvC k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Cell) (u : Unit) : lv (kcell (c, k)) u = lvC k := by dsimp only [lv]; rw [idx_csem]

theorem owe_pos {c : Dev nD} {js : List Pay} {g : GSem nD τ sig} {u : Unit} (h : 0 < owe c js g u) :
    ∃ j ∈ js, g = kcell (payee j c, payCell j) := by
  induction js with
  | nil => exact absurd h (Nat.lt_irrefl 0)
  | cons j js ih =>
    unfold owe at h
    rw [Pi.add_apply, Finsupp.add_apply, tallyAt_apply] at h
    by_cases hj : g = kcell (payee j c, payCell j) ∧ u = ()
    · exact ⟨j, List.mem_cons_self, hj.1⟩
    · rw [if_neg hj, Nat.add_zero] at h
      obtain ⟨j', hj', hg⟩ := ih h
      exact ⟨j', List.mem_cons_of_mem _ hj', hg⟩

/-- A device may wait on a cell below all it owes. -/
theorem mayWait (c : Dev nD) (sm : SemLoc sig) (n : ℕ) (hn : ∀ u, lv ((c : Thread nD τ), sm) u ≤ n) (js : List Pay) (h : ∀ j ∈ js, n < lvC (payCell j)) :
    (levAts L lv : sProp 𝕄) ⊢ MayWait (c : Thread nD τ) sm () (owe c js) :=
  MayOwe.of_cut (L := L) (lev := lv) n (fun p hp => by rw [Finset.mem_singleton.mp hp, L_tc]; exact Finset.mem_singleton_self _)
    (fun g u hg => by obtain ⟨j, _, rfl⟩ := owe_pos hg; rw [L_tc]; exact Finset.mem_singleton_self _)
    (fun p hp => by rw [Finset.mem_singleton.mp hp]; exact hn ())
    (fun g u hg => by obtain ⟨j, hj, rfl⟩ := owe_pos hg; rw [lv_at]; exact h j hj)

/-! ## The rules -/

section Rules

variable (m : (ℓ : Loc nD τ sig) → Buf (Elt F) ℓ) (K : Dev nD × Cell → ℕ) (c : Dev nD)

/-- What every device knows: all cells' invariants, that all are at their round, and the levels. -/
def facts : sProp 𝕄 :=
  iprop((bigSep Finset.univ fun ck : Dev nD × Cell => cellInv ER (Rd m) (K ck) (kcell ck))
    ∗ (bigSep Finset.univ fun ck : Dev nD × Cell => reached ER (kcell ck) 0) ∗ levAts L lv)

instance facts_persistent : BI.Persistent (facts m K) := by unfold facts; infer_instance

theorem inv_of_all (ck : Dev nD × Cell) :
    (bigSep Finset.univ fun ck : Dev nD × Cell => (cellInv ER (Rd m) (K ck) (kcell ck) : sProp 𝕄)) ⊢ cellInv ER (Rd m) (K ck) (kcell ck) :=
  bigSep_elim (Finset.mem_univ ck)
omit [FloatOps F] in
theorem reached_of_all (ck : Dev nD × Cell) :
    (bigSep Finset.univ fun ck : Dev nD × Cell => (reached ER (kcell ck) 0 : sProp 𝕄)) ⊢ reached ER (kcell ck) 0 :=
  bigSep_elim (Finset.mem_univ ck)
theorem facts_inv (ck : Dev nD × Cell) : facts m K ⊢ cellInv ER (Rd m) (K ck) (kcell ck) := by
  unfold facts; iintro ⟨H, -, -⟩
  iapply (inv_of_all m K ck); iexact H
theorem facts_reached (ck : Dev nD × Cell) : facts m K ⊢ reached ER (kcell ck) 0 := by
  unfold facts; iintro ⟨-, H, -⟩
  iapply (reached_of_all (F := F) ck); iexact H
theorem facts_lev : facts m K ⊢ levAts L lv := by
  unfold facts; iintro ⟨-, -, H⟩; iexact H

/-- Owing the payments listed, having waited on whatever. -/
def ow (c : Dev nD) (js : List Pay) : sProp 𝕄 := iprop(∃ W, owes (c : Thread nD τ) (owe c js) W)

abbrev wpp {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {k : PUnit → Prog (TpuEff nD τ sig (Elt F) Λ₀ .tc) α}

/-- A signal to a neighbour's barrier cell. -/
theorem wp_sig (b : Bool) (n : Dev nD) (hn : n = payee (.inl b) c) (js : List Pay) :
    iprop(facts m K ∗ ow c (.inl b :: js) ∗ dutyTok ER (kcell (payee (.inl b) c, bar)) 0 b ∗ payC m (payee (.inl b) c) bar b)
      ⊢ iprop((ow c js -∗ wpp c (k ⟨⟩) Q) -∗ wpp c (.op (.semSignal (n : Thread nD τ) barS ((1#32 : BitVec 32).toInt)) k) Q) := by
  subst hn
  iintro ⟨#HF, HO, Ht, Hp⟩ Hk
  unfold ow
  icases HO with ⟨%W, HO⟩
  iapply (Rounds.wp_signal 𝒱₀ ER (Rd m) (c : Thread nD τ) none (dst := (payee (.inl b) c : Thread nD τ)) (κ := K (payee (.inl b) c, bar))
      (d := b) (r := 0) (by rw [show ((payee (.inl b) c : Thread nD τ), SemLoc.reg barS) = kcell (payee (.inl b) c, bar) from rfl, duties_at]; exact Finset.mem_univ _)
      ((amount_at m (payee (.inl b) c) bar b).trans (by decide)) () (owe c js) rfl (W := W)) $$ [HO Ht Hp]
  · isplitr; · iapply (facts_inv m K (payee (.inl b) c, bar)); iexact HF
    isplitl [HO]; · iexact HO
    isplitl [Ht]; · iexact Ht
    isplitl [Hp]
    · rw [show ((payee (.inl b) c : Thread nD τ), SemLoc.reg barS) = kcell (payee (.inl b) c, bar) from rfl, payload_at]; iexact Hp
    iapply (facts_reached m K (payee (.inl b) c, bar)); iexact HF
  iintro HO
  iapply Hk
  iexists W; iexact HO

/-- A wait for all of a cell's round: what comes with it, and the cell at zero for good. -/
theorem wp_wt {w : TpuEff nD τ sig (Elt F) Λ₀ .tc PUnit} (x : Cell) (n : ℕ)
    (hw : ∀ Kt : PUnit → sProp 𝕄, wpE (defs₀ (F := F)) 𝒱₀ (c : Thread nD τ) none Set.univ w Kt = waitSpec (c : Thread nD τ) Set.univ (csem x) n Kt)
    (hN : n = totC x) (js : List Pay) (hl : ∀ j ∈ js, lvC x < lvC (payCell j)) :
    iprop(facts m K ∗ ow c js ∗ cred (tallyAt (kcell (c, x)) () n) ∗ atPos ER (kcell (c, x)) 0 ∅ 0)
      ⊢ iprop((ow c js -∗ semVal (kcell (c, x)) 0 -∗ gain m c x -∗ wpp c (k ⟨⟩) Q) -∗ wpp c (.op w k) Q) := by
  subst hN
  iintro ⟨#HF, HO, Hc, Ha⟩ Hk
  unfold ow
  icases HO with ⟨%W, HO⟩
  iapply (Rounds.wp_wait_rest_token 𝒱₀ ER (Rd m) (c : Thread nD τ) none (κ := K (c, x)) hw (Set.mem_univ _) () (O := owe c js) (W := W) (R := 0) (m := 0) (T := ∅)
      (by rw [Nat.zero_add]; exact (expect_at m c x).symm)) $$ [HO Hc Ha]
  · isplitr; · iapply (facts_inv m K (c, x)); iexact HF
    isplitl [Hc]; · iexact Hc
    isplitl [HO]; · iexact HO
    isplitr
    · iapply (mayWait c (csem x) (lvC x) (fun u => (lv_at c x u).le) js hl); iapply (facts_lev m K); iexact HF
    iexact Ha
  iintro ⟨HO, Ha, -, Hp⟩
  imod (Rounds.cell_close ER (Rd m) (Set.mem_univ (K (c, x))) (fun h => h) (R := 0 + 1) (duties_later m (kcell (c, x)))) $$ [Ha] with Hz
  · isplitr; · iapply (facts_inv m K (c, x)); iexact HF
    iexact Ha
  ihave Hp' := (Entails.of_eq (rest_at m c x)) $$ Hp
  iapply Hk $$ [HO] [Hz] [Hp']
  · iexists (insert (csem x, ()) W); iexact HO
  · iexact Hz
  · iexact Hp'

/-- A copy on the device, its source held. -/
theorem wp_cp {sp sp' : Space} {s : Shape} (x : Cell) (hd : false ∈ dutC x) {src : Memref sig .tc sp s .f32} {dst : Memref sig .tc sp' s .f32} (X : Vec F s .f32)
    (hp : payC m c x false = iprop(at_ c dst X ∗ at_ c src X)) (hN : dst.view.amount (csem x) = amtC x)
    {hsrc : src.view.WordExact} {hdst : dst.view.WordExact} {hsem : DmaTarget.Typed (nD := nD) (p := (c : Thread nD τ).2) sp (csem x) (.here dst)} :
    iprop(facts m K ∗ at_ c src X ∗ free c dst ∗ dutyTok ER (kcell (c, x)) 0 false)
      ⊢ iprop((cred (tallyAt (kcell (c, x)) () (amtC x)) -∗ wpp c (k ⟨⟩) Q)
          -∗ wpp c (.op (.enqueueDma src (.here dst) (csem x) hsrc hdst hsem) k) Q) := by
  iintro ⟨#HF, Hs, ⟨%Y, Hd⟩, Ht⟩ Hk
  ihave Hs' := (Own.owns_open (c : Thread nD τ) src fullShare X) $$ Hs
  icases Hs' with ⟨%fs, %hfs, Hs⟩
  ihave Hd' := (Own.owns_open (c : Thread nD τ) dst fullShare Y) $$ Hd
  icases Hd' with ⟨%fd, %hfd, Hd⟩
  iapply (Rounds.wp_copy_pointsTo 𝒱₀ ER (Rd m) (c : Thread nD τ) none (κ := K (c, x)) (r := 0) (d := false) (q := fullShare) (fs := fs) (fd := fd)
      (by rw [show ((c : Thread nD τ), csem x) = kcell (c, x) from rfl, duties_at]; exact hd) () (amtC x) hN (amount_at m c x false)
      (by
        refine BI.Entails.trans ?_ (Entails.of_eq ((payload_at m c x false).trans hp).symm)
        subst hfs
        exact BI.sep_mono (Own.owns_of_write (c : Thread nD τ) dst fullShare fd _) (owns_intro (c : Thread nD τ) src fullShare fs))) $$ [Hs Hd Ht]
  · isplitr; · iapply (facts_inv m K (c, x)); iexact HF
    isplitl [Hs]; · iexact Hs
    isplitl [Hd]; · iexact Hd
    isplitl [Ht]; · iexact Ht
    iapply (facts_reached m K (c, x)); iexact HF
  iexact Hk

/-- Transfer `t`, its source held at some share. -/
theorem wp_tr {sp sp' : Space} {s : Shape} (t : Fin 7) (n : Dev nD) (hn : n = tgt t c) {src : Memref sig .tc sp s .f32} {dst : Memref sig .tc sp' s .f32}
    (q : PosShare TreeShare) (X : Vec F s .f32)
    (hs : sndPay m c t = owns (c : Thread nD τ) src q X) (hr : rcvPay m (tgt t c) t = at_ (tgt t c) dst X)
    (hN : dst.view.amount (csem (rcv t)) = amtX t) (js : List Pay)
    {hsc : dst.view.ref.isScScratch = false} {hsrc : src.view.WordExact} {hdst : dst.view.WordExact}
    {hsem : DmaTarget.Typed sp (csem (rcv t)) (.remote (Dev.tc n : Thread nD τ) dst (csem (snd t)) hsc)} :
    iprop(facts m K ∗ owns (c : Thread nD τ) src q X ∗ free (tgt t c) dst ∗ ow c (.inr t :: js)
        ∗ dutyTok ER (kcell (c, snd t)) 0 false ∗ dutyTok ER (kcell (tgt t c, rcv t)) 0 false)
      ⊢ iprop((ow c js -∗ cred (tallyAt (kcell (c, snd t)) () (amtX t)) -∗ wpp c (k ⟨⟩) Q)
          -∗ wpp c (.op (.enqueueDma src (.remote (Dev.tc n : Thread nD τ) dst (csem (snd t)) hsc) (csem (rcv t)) hsrc hdst hsem) k) Q) := by
  subst hn
  iintro ⟨#HF, Hs, ⟨%Y, Hd⟩, HO, Ht1, Ht2⟩ Hk
  unfold ow
  icases HO with ⟨%W, HO⟩
  ihave Hs' := (Own.owns_open (c : Thread nD τ) src q X) $$ Hs
  icases Hs' with ⟨%fs, %hfs, Hs⟩
  ihave Hd' := (Own.owns_open (tgt t c : Thread nD τ) dst fullShare Y) $$ Hd
  icases Hd' with ⟨%fd, %hfd, Hd⟩
  iapply (Rounds.wp_send_pointsTo 𝒱₀ ER (Rd m) (c : Thread nD τ) none (c' := (tgt t c : Thread nD τ)) (κ₁ := K (c, snd t)) (κ₂ := K (tgt t c, rcv t))
      (r₁ := 0) (r₂ := 0) (d₁ := false) (d₂ := false) (q := q) (fs := fs) (fd := fd)
      (by rw [show ((c : Thread nD τ), csem (snd t)) = kcell (c, snd t) from rfl, duties_at]; exact Finset.mem_singleton_self _)
      (by rw [show ((tgt t c : Thread nD τ), csem (rcv t)) = kcell (tgt t c, rcv t) from rfl, duties_at]; exact Finset.mem_singleton_self _)
      () () (amtX t) hN (amount_at m c (snd t) false) (amount_at m (tgt t c) (rcv t) false) (owe c js) rfl (W := W)
      (by
        refine BI.Entails.trans ?_ (Entails.of_eq ((payload_at m c (snd t) false).trans hs).symm)
        subst hfs
        exact owns_intro (c : Thread nD τ) src q fs)
      (by
        refine BI.Entails.trans ?_ (Entails.of_eq ((payload_at m (tgt t c) (rcv t) false).trans hr).symm)
        subst hfs
        exact Own.owns_of_write (tgt t c : Thread nD τ) dst fullShare fd _)) $$ [Hs Hd HO Ht1 Ht2]
  · isplitr; · iapply (facts_inv m K (c, snd t)); iexact HF
    isplitr; · iapply (facts_inv m K (tgt t c, rcv t)); iexact HF
    isplitl [Hs]; · iexact Hs
    isplitl [Hd]; · iexact Hd
    isplitl [HO]; · iexact HO
    isplitl [Ht1]; · iexact Ht1
    isplitr; · iapply (facts_reached m K (c, snd t)); iexact HF
    isplitl [Ht2]; · iexact Ht2
    iapply (facts_reached m K (tgt t c, rcv t)); iexact HF
  iintro ⟨Hc, HO⟩
  iapply Hk $$ [HO] [Hc]
  · iexists W; iexact HO
  · iexact Hc

end Rules

end Cert.Attn

end
-- ==== Proof.Ops.lean ====
/-
The kernel's own operations: the copies of one head's keys and values in and the waits for them, a transfer and the two waits
that end it, and what a device holds for each before, between and after.
-/
module

public import proofs.«01_k».proof.Proof.Sched

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## What a device holds for one head's copies -/

/-- Before the copy of head `h`'s keys (and of its values) is issued, until its wait, and from then on. -/
def ks0 (h : Fin 8) : sProp 𝕄 :=
  iprop(at_ c (sqSrc (kSrc h)) (kC m c h) ∗ free c (sqSlot (kSl h)) ∗ dutyTok ER (kcell (c, kst h)) 0 false ∗ atPos ER (kcell (c, kst h)) 0 ∅ 0)
def vs0 (h : Fin 8) : sProp 𝕄 :=
  iprop(at_ c (sqSrc (vSrc h)) (vC m c h) ∗ free c (sqSlot (vSl h)) ∗ dutyTok ER (kcell (c, vst h)) 0 false ∗ atPos ER (kcell (c, vst h)) 0 ∅ 0)
def ks1 (h : Fin 8) : sProp 𝕄 := iprop(cred (tallyAt (kcell (c, kst h)) () NS) ∗ atPos ER (kcell (c, kst h)) 0 ∅ 0)
def vs1 (h : Fin 8) : sProp 𝕄 := iprop(cred (tallyAt (kcell (c, vst h)) () NS) ∗ atPos ER (kcell (c, vst h)) 0 ∅ 0)
def ks2 (h : Fin 8) : sProp 𝕄 := iprop(at_ c (sqSrc (kSrc h)) (kC m c h) ∗ semVal (kcell (c, kst h)) 0)
def vs2 (h : Fin 8) : sProp 𝕄 := iprop(at_ c (sqSrc (vSrc h)) (vC m c h) ∗ semVal (kcell (c, vst h)) 0)

/-- Before transfer `t` is issued, until the wait for its source, until the wait for the landing, and from then on. -/
def tr0 (t : Fin 7) : sProp 𝕄 :=
  iprop(dutyTok ER (kcell (c, snd t)) 0 false ∗ dutyTok ER (kcell (tgt t c, rcv t)) 0 false ∗ atPos ER (kcell (c, snd t)) 0 ∅ 0
    ∗ atPos ER (kcell (c, rcv t)) 0 ∅ 0 ∗ cred (tallyAt (kcell (c, rcv t)) () (amtX t)))
def tr1 (t : Fin 7) : sProp 𝕄 :=
  iprop(cred (tallyAt (kcell (c, snd t)) () (amtX t)) ∗ atPos ER (kcell (c, snd t)) 0 ∅ 0
    ∗ atPos ER (kcell (c, rcv t)) 0 ∅ 0 ∗ cred (tallyAt (kcell (c, rcv t)) () (amtX t)))
def tr2 (t : Fin 7) : sProp 𝕄 :=
  iprop(semVal (kcell (c, snd t)) 0 ∗ atPos ER (kcell (c, rcv t)) 0 ∅ 0 ∗ cred (tallyAt (kcell (c, rcv t)) () (amtX t)))
def tr3 (t : Fin 7) : sProp 𝕄 := iprop(semVal (kcell (c, snd t)) 0 ∗ semVal (kcell (c, rcv t)) 0)

/-! ## The operations -/

section Rules

variable {α : Type} {Q : α → sProp (MT nD τ sig Unit (Elt F) ℕ UU ℕ)} {k : PUnit → Prog (TpuEff nD τ sig (Elt F) Λ₀ .tc) α}

theorem wp_kcp (h : Fin 8) {hsrc : (sqSrc (kSrc h)).view.WordExact} {hdst : (sqSlot (kSl h)).view.WordExact}
    {hsem : DmaTarget.Typed (nD := nD) (p := (c : Thread nD τ).2) .hbm (csem (kst h)) (.here (sqSlot (kSl h)))} :
    iprop(facts m K ∗ ks0 m c h) ⊢ iprop((ks1 c h -∗ wpp c (k ⟨⟩) Q)
      -∗ wpp c (.op (.enqueueDma (sqSrc (kSrc h)) (.here (sqSlot (kSl h))) (csem (kst h)) hsrc hdst hsem) k) Q) := by
  unfold ks0 ks1
  iintro ⟨#HF, Hs, Hd, Ht, Ha⟩ Hk
  iapply (wp_cp m K c (kst h) (Finset.mem_singleton_self _) (kC m c h) rfl rfl) $$ [Hs Hd Ht]
  · isplitr; · iexact HF
    isplitl [Hs]; · iexact Hs
    isplitl [Hd]; · iexact Hd
    iexact Ht
  iintro Hc; iapply Hk
  isplitl [Hc]; · iexact Hc
  iexact Ha

theorem wp_vcp (h : Fin 8) {hsrc : (sqSrc (vSrc h)).view.WordExact} {hdst : (sqSlot (vSl h)).view.WordExact}
    {hsem : DmaTarget.Typed (nD := nD) (p := (c : Thread nD τ).2) .hbm (csem (vst h)) (.here (sqSlot (vSl h)))} :
    iprop(facts m K ∗ vs0 m c h) ⊢ iprop((vs1 c h -∗ wpp c (k ⟨⟩) Q)
      -∗ wpp c (.op (.enqueueDma (sqSrc (vSrc h)) (.here (sqSlot (vSl h))) (csem (vst h)) hsrc hdst hsem) k) Q) := by
  unfold vs0 vs1
  iintro ⟨#HF, Hs, Hd, Ht, Ha⟩ Hk
  iapply (wp_cp m K c (vst h) (Finset.mem_singleton_self _) (vC m c h) rfl rfl) $$ [Hs Hd Ht]
  · isplitr; · iexact HF
    isplitl [Hs]; · iexact Hs
    isplitl [Hd]; · iexact Hd
    iexact Ht
  iintro Hc; iapply Hk
  isplitl [Hc]; · iexact Hc
  iexact Ha

theorem lvl_pos (js : List Pay) : ∀ j ∈ js, 0 < lvC (payCell j) := by
  have h : ∀ j : Pay, 0 < lvC (payCell j) := by decide
  exact fun j _ => h j

/-- The wait for head `h`'s keys: its slot holds them. -/
theorem wp_kwt (h : Fin 8) (js : List Pay) {sq : DmaSem sig} (hq : SemLoc.dma sq = csem (kst h))
    {hsrc : (sqSrc (kSrc h)).view.WordExact} {hdst : (sqSlot (kSl h)).view.WordExact} :
    iprop(facts m K ∗ ow c js ∗ ks1 c h) ⊢ iprop((ow c js -∗ ks2 m c h -∗ at_ c (kSl h) (kV m c h) -∗ wpp c (k ⟨⟩) Q)
      -∗ wpp c (.op (.waitDma2 sq (sqSrc (kSrc h)) (sqSlot (kSl h)) hsrc hdst) k) Q) := by
  unfold ks1 ks2
  iintro ⟨#HF, HO, Hc, Ha⟩ Hk
  iapply (wp_wt m K c (kst h) NS (by rw [← hq]; exact wpE_waitDma2_eq 𝒱₀ (c : Thread nD τ) none Set.univ) rfl js (lvl_pos js)) $$ [HO Hc Ha]
  · isplitr; · iexact HF
    isplitl [HO]; · iexact HO
    isplitl [Hc] <;> iassumption
  iintro HO Hz Hp
  unfold gain payC
  icases Hp with ⟨Hd, Hs⟩
  iapply Hk $$ HO [Hs Hz]
  · isplitl [Hs] <;> iassumption
  iapply (Own.owns_unsqueeze (c : Thread nD τ)); iexact Hd

theorem wp_vwt (h : Fin 8) (js : List Pay) {sq : DmaSem sig} (hq : SemLoc.dma sq = csem (vst h))
    {hsrc : (sqSrc (vSrc h)).view.WordExact} {hdst : (sqSlot (vSl h)).view.WordExact} :
    iprop(facts m K ∗ ow c js ∗ vs1 c h) ⊢ iprop((ow c js -∗ vs2 m c h -∗ at_ c (vSl h) (vV m c h) -∗ wpp c (k ⟨⟩) Q)
      -∗ wpp c (.op (.waitDma2 sq (sqSrc (vSrc h)) (sqSlot (vSl h)) hsrc hdst) k) Q) := by
  unfold vs1 vs2
  iintro ⟨#HF, HO, Hc, Ha⟩ Hk
  iapply (wp_wt m K c (vst h) NS (by rw [← hq]; exact wpE_waitDma2_eq 𝒱₀ (c : Thread nD τ) none Set.univ) rfl js (lvl_pos js)) $$ [HO Hc Ha]
  · isplitr; · iexact HF
    isplitl [HO]; · iexact HO
    isplitl [Hc] <;> iassumption
  iintro HO Hz Hp
  unfold gain payC
  icases Hp with ⟨Hd, Hs⟩
  iapply Hk $$ HO [Hs Hz]
  · isplitl [Hs] <;> iassumption
  iapply (Own.owns_unsqueeze (c : Thread nD τ)); iexact Hd

/-- Transfer `t` issued. -/
theorem wp_xf {sp sp' : Space} {s : Shape} (t : Fin 7) (n : Dev nD) (hn : n = tgt t c) {src : Memref sig .tc sp s .f32} {dst : Memref sig .tc sp' s .f32}
    (q : PosShare TreeShare) (X : Vec F s .f32)
    (hs : sndPay m c t = owns (c : Thread nD τ) src q X) (hr : rcvPay m (tgt t c) t = at_ (tgt t c) dst X)
    (hN : dst.view.dmaCredit = amtX t) (js : List Pay) {sS sem : DmaSem sig} (hS : SemLoc.dma sS = csem (snd t)) (hR : SemLoc.dma sem = csem (rcv t))
    {hsc : dst.view.ref.isScScratch = false} {hsrc : src.view.WordExact} {hdst : dst.view.WordExact}
    {hsem : DmaTarget.Typed sp (.dma sem) (.remote (Dev.tc n : Thread nD τ) dst (.dma sS) hsc)} :
    iprop(facts m K ∗ owns (c : Thread nD τ) src q X ∗ free (tgt t c) dst ∗ ow c (.inr t :: js) ∗ tr0 c t)
      ⊢ iprop((ow c js -∗ tr1 c t -∗ wpp c (k ⟨⟩) Q)
          -∗ wpp c (.op (.enqueueDma src (.remote (Dev.tc n : Thread nD τ) dst (.dma sS) hsc) (.dma sem) hsrc hdst hsem) k) Q) := by
  have hN' : dst.view.amount (csem (rcv t)) = amtX t := by rw [← hR]; exact hN
  revert hsem
  generalize hS' : SemLoc.dma sS = a
  generalize hR' : SemLoc.dma sem = b
  rw [hS'] at hS; rw [hR'] at hR
  subst hS; subst hR
  intro hsem
  unfold tr0 tr1
  iintro ⟨#HF, Hs, Hd, HO, Ht1, Ht2, Ha1, Ha2, Hc2⟩ Hk
  iapply (wp_tr m K c t n hn q X hs hr hN' js) $$ [Hs Hd HO Ht1 Ht2]
  · isplitr; · iexact HF
    isplitl [Hs]; · iexact Hs
    isplitl [Hd]; · iexact Hd
    isplitl [HO]; · iexact HO
    isplitl [Ht1] <;> iassumption
  iintro HO Hc
  iapply Hk $$ HO
  isplitl [Hc]; · iexact Hc
  isplitl [Ha1]; · iexact Ha1
  isplitl [Ha2] <;> iassumption

/-- The wait for transfer `t`'s source. -/
theorem wp_xs {sp sp' : Space} {s : Shape} {e : EltTy} (t : Fin 7) (js : List Pay) {sS : DmaSem sig} (hS : SemLoc.dma sS = csem (snd t))
    {src : Memref sig .tc sp s e} {dst : Memref sig .tc sp' s e} (hN : dst.view.dmaCredit = amtX t)
    {hsrc : src.view.WordExact} {hdst : dst.view.WordExact} :
    iprop(facts m K ∗ ow c js ∗ tr1 c t) ⊢ iprop((ow c js -∗ tr2 c t -∗ sndPay m c t -∗ wpp c (k ⟨⟩) Q)
      -∗ wpp c (.op (.waitDma2 sS src dst hsrc hdst) k) Q) := by
  unfold tr1 tr2
  iintro ⟨#HF, HO, Hc, Ha, Ha2, Hc2⟩ Hk
  iapply (wp_wt m K c (snd t) (amtX t) (by rw [← hS, ← hN]; exact wpE_waitDma2_eq 𝒱₀ (c : Thread nD τ) none Set.univ) rfl js (lvl_pos js)) $$ [HO Hc Ha]
  · isplitr; · iexact HF
    isplitl [HO]; · iexact HO
    isplitl [Hc] <;> iassumption
  rw [show gain m c (snd t) = sndPay m c t from rfl]
  iintro HO Hz Hp
  iapply Hk $$ HO [Hz Ha2 Hc2] Hp
  isplitl [Hz]; · iexact Hz
  isplitl [Ha2] <;> iassumption

/-- The wait for what transfer `t` lands here. -/
theorem wp_xr {sp sp' : Space} {s : Shape} {e : EltTy} (t : Fin 7) (js : List Pay) (hl : ∀ j ∈ js, lvC (rcv t) < lvC (payCell j))
    {sS : DmaSem sig} (hS : SemLoc.dma sS = csem (rcv t))
    {src : Memref sig .tc sp s e} {dst : Memref sig .tc sp' s e} (hN : dst.view.dmaCredit = amtX t)
    {hsrc : src.view.WordExact} {hdst : dst.view.WordExact} :
    iprop(facts m K ∗ ow c js ∗ tr2 c t) ⊢ iprop((ow c js -∗ tr3 c t -∗ rcvPay m c t -∗ wpp c (k ⟨⟩) Q)
      -∗ wpp c (.op (.waitDma2 sS src dst hsrc hdst) k) Q) := by
  unfold tr2 tr3
  iintro ⟨#HF, HO, Hz1, Ha, Hc⟩ Hk
  iapply (wp_wt m K c (rcv t) (amtX t) (by rw [← hS, ← hN]; exact wpE_waitDma2_eq 𝒱₀ (c : Thread nD τ) none Set.univ) rfl js hl) $$ [HO Hc Ha]
  · isplitr; · iexact HF
    isplitl [HO]; · iexact HO
    isplitl [Hc] <;> iassumption
  rw [show gain m c (rcv t) = rcvPay m c t from rfl]
  iintro HO Hz Hp
  iapply Hk $$ HO [Hz1 Hz] Hp
  isplitl [Hz1] <;> iassumption

/-- The wait for both neighbours' signals: where the transfers to them land. -/
theorem wp_bar (js : List Pay) (hl : ∀ j ∈ js, 1 < lvC (payCell j)) :
    iprop(facts m K ∗ ow c js ∗ cred (tallyAt (kcell (c, bar)) () 2) ∗ atPos ER (kcell (c, bar)) 0 ∅ 0)
      ⊢ iprop((ow c js -∗ semVal (kcell (c, bar)) 0 -∗ handL (prv c) -∗ handR (nxt c) -∗ wpp c (k ⟨⟩) Q)
        -∗ wpp c (.op (.semWait barS (2#32 : BitVec 32).toInt) k) Q) := by
  iintro ⟨#HF, HO, Hc, Ha⟩ Hk
  iapply (wp_wt m K c bar 2 (wpE_semWait_eq 𝒱₀ (c : Thread nD τ) none Set.univ) rfl js hl) $$ [HO Hc Ha]
  · isplitr; · iexact HF
    isplitl [HO]; · iexact HO
    isplitl [Hc] <;> iassumption
  iintro HO Hz Hp
  unfold gain
  icases Hp with ⟨H1, H2⟩
  iapply Hk $$ HO Hz H1 H2

end Rules

end Cert.Attn

end
-- ==== Proof.Mem.lean ====
/-
The kernel's loads and stores: what a device holds of the attention buffer as its heads are filled in, of the staged keys and
values, and of the result as its row blocks are written.
-/
module

public import proofs.«01_k».proof.Proof.Ops
public import Idealize.ShloMosaic.Lib.VecWindow
public import Idealize.ShloMosaic.Lib.ValueLayout

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)
variable {α : Type} {Q : α → sProp (MT nD τ sig Unit (Elt F) ℕ UU ℕ)}

/-- A load of the whole of a held memref reads its contents. -/
theorem ld_full {sp : CoreSpace} {s : Shape} {M : Memref sig .tc sp s .f32} {off : Fin s.rank → ℕ} {hin : ∀ a, off a + s.size a ≤ s.size a}
    {hl : M.view.LoadsAt (Rect.unit off s.size hin).toLoadRect}
    {k : Vec F s .f32 → Prog (TpuEff nD τ sig (Elt F) Λ₀ .tc) α} {q : PosShare TreeShare} {X : Vec F s .f32} :
    (owns (c : Thread nD τ) M q X : sProp 𝕄)
      ⊢ iprop((owns (c : Thread nD τ) M q X -∗ wpp c (k X) Q)
        -∗ wpp c (.op (.load M (Rect.unit off s.size hin).toLoadRect hl) k) Q) := by
  have h := Own.load_sub (c : Thread nD τ) 𝒱₀ none (defs := defs₀ (F := F)) Set.univ (Q := Q) (Γ := []) (m := M)
    (r := Rect.unit off s.size hin) (hl := hl) (k := k) (q := q) (X := X) (Name := ℕ) (U := UU) (Lvl := ℕ)
  rw [show (fun i => X ((Rect.unit off s.size hin).emb i)) = X from funext fun i => congrArg X (Rect.emb_unit_full hin i)] at h
  exact h

/-- A store of the whole of a held memref leaves it at what was stored. -/
theorem st_full {sp : CoreSpace} {s : Shape} {M : Memref sig .tc sp s .f32} {off : Fin s.rank → ℕ} {hin : ∀ a, off a + s.size a ≤ s.size a}
    {w : Vec F s .f32} {hx : (M.access (Rect.unit off s.size hin)).Stores Finset.univ}
    {hm : (Finset.univ : Finset (Rect.unit off s.size hin).shape.Idx) = Finset.univ ∨ ∀ a, (Rect.unit off s.size hin).stride a = 1}
    {k : PUnit → Prog (TpuEff nD τ sig (Elt F) Λ₀ .tc) α} {X : Vec F s .f32} :
    (at_ c M X : sProp 𝕄)
      ⊢ iprop((at_ c M w -∗ wpp c (k ⟨⟩) Q)
        -∗ wpp c (.op (.store M (Rect.unit off s.size hin) w Finset.univ hx hm) k) Q) := by
  have h := Own.store_sub (c : Thread nD τ) 𝒱₀ none (defs := defs₀ (F := F)) Set.univ (Q := Q) (Γ := []) (m := M)
    (r := Rect.unit off s.size hin) (w := w) (hx := hx) (hm := hm) (k := k) (X := X) (Name := ℕ) (U := UU) (Lvl := ℕ)
  rw [show (Rect.unit off s.size hin).overlay X w = w from funext fun i => by
    have := Rect.overlay_emb (Rect.unit off s.size hin) X w i
    rw [Rect.emb_unit_full hin i] at this
    exact this] at h
  exact h

/-! ## The attention buffer -/

/-- The first `n` heads of block `r` filled in. -/
def attnAt (r : Fin 4) (n : ℕ) : sProp 𝕄 :=
  iprop(∃ A : Vec F S128x1024 .f32, ⌜∀ i, (i 1).val < 128 * n → A i = attn m c r i⌝ ∗ at_ c attnM A)

theorem attnAt_start (X : Vec F S128x1024 .f32) (r : Fin 4) : (at_ c attnM X : sProp 𝕄) ⊢ attnAt m c r 0 := by
  unfold attnAt
  iintro H; iexists X
  isplitr
  · ipureintro; intro i hi; omega
  · iexact H

theorem attnAt_full (r : Fin 4) : (attnAt m c r 8 : sProp 𝕄) ⊢ at_ c attnM (attn m c r) := by
  unfold attnAt
  iintro ⟨%A, %hA, H⟩
  have e : A = attn m c r := funext fun i => hA i (by have : (i 1).val < 1024 := (i 1).isLt; omega)
  subst e
  iexact H

theorem attn_ld (r : Fin 4) (n : ℕ) (h : Fin 8) {hl : attnM.view.LoadsAt (colRect h).toLoadRect}
    {k : Prog (TpuEff nD τ sig (Elt F) Λ₀ .tc) α} :
    attnAt m c r n ⊢ iprop((attnAt m c r n -∗ wpp c k Q) -∗ wpp c (.op (.load attnM (colRect h).toLoadRect hl) (fun _ => k)) Q) := by
  unfold attnAt
  iintro ⟨%A, %hA, H⟩ Hk
  iapply (Own.load_sub (c : Thread nD τ) 𝒱₀ none Set.univ) $$ H
  iintro H; iapply Hk
  iexists A
  isplitr
  · ipureintro; exact hA
  · iexact H

theorem attn_col (r : Fin 4) (h : Fin 8) (i : S128x128.Idx) : attn m c r ((colRect h).emb i) = head m c r h i := by
  have h0 : (i 1).val < 128 := (i 1).isLt
  have e1 : (((colRect h).emb i) 1).val = 128 * h.val + (i 1).val := by
    show 128 * h.val + 1 * (i 1).val = _; omega
  have e0 : (((colRect h).emb i) 0).val = (i 0).val := by
    show 0 + 1 * (i 0).val = _; omega
  unfold attn
  have eh : (⟨(((colRect h).emb i) 1).val / 128, by rw [e1]; have := h.isLt; omega⟩ : Fin 8) = h := Fin.ext (by show _ / 128 = _; rw [e1]; omega)
  rw [eh]
  congr 1
  funext a
  match a with
  | ⟨0, _⟩ => exact Fin.ext e0
  | ⟨1, _⟩ => exact Fin.ext (by show _ % 128 = (i 1).val; rw [e1]; omega)

theorem attn_st (r : Fin 4) (h : Fin 8) (n : ℕ) (hn : n = h.val) {w : FVec F S128x128 .f32} (hw : w = head m c r h)
    {hx : (attnM.access (colRect h)).Stores Finset.univ}
    {hm : (Finset.univ : Finset (colRect h).shape.Idx) = Finset.univ ∨ ∀ a, (colRect h).stride a = 1}
    {k : PUnit → Prog (TpuEff nD τ sig (Elt F) Λ₀ .tc) α} :
    attnAt m c r n ⊢ iprop((attnAt m c r (n + 1) -∗ wpp c (k ⟨⟩) Q)
      -∗ wpp c (.op (.store attnM (colRect h) w Finset.univ hx hm) k) Q) := by
  subst hn; subst hw
  unfold attnAt
  iintro ⟨%A, %hA, H⟩ Hk
  iapply (Own.store_sub (c : Thread nD τ) 𝒱₀ none Set.univ) $$ H
  iintro H; iapply Hk
  iexists (colRect h).overlay A (head m c r h)
  isplitr
  · ipureintro
    intro i hi
    by_cases hmem : i ∈ (colRect h).set
    · obtain ⟨j, rfl⟩ := LoadRect.exists_idx_of_mem _ hmem
      exact (Rect.overlay_emb (colRect h) A _ j).trans (attn_col m c r h j).symm
    · rw [Rect.overlay_of_not_mem _ _ _ hmem]
      refine hA i ?_
      by_contra hlt
      refine hmem (Rect.mem_set_unit.mpr fun a => ?_)
      match a with
      | ⟨0, _⟩ => exact ⟨Nat.zero_le _, by show (i 0).val < 0 + 128; have : (i 0).val < 128 := (i 0).isLt; omega⟩
      | ⟨1, _⟩ => exact ⟨by show 128 * h.val ≤ (i 1).val; omega, by show (i 1).val < 128 * h.val + 128; omega⟩
  · iexact H

/-! ## The staged keys and values -/

def kvOne (h : Fin 8) : sProp 𝕄 := iprop(at_ c (kSl h) (kV m c h) ∗ at_ c (vSl h) (vV m c h))
def kvAll : sProp 𝕄 := bigSep Finset.univ (kvOne m c)

theorem kvAll_erase (h : Fin 8) : (kvAll m c : sProp 𝕄) ⊢ iprop(kvOne m c h ∗ bigSep (Finset.univ.erase h) (kvOne m c)) :=
  BIBase.Entails.of_eq (BI.bigSep_erase (Finset.mem_univ h))
theorem kvAll_insert (h : Fin 8) : iprop(kvOne m c h ∗ bigSep (Finset.univ.erase h) (kvOne m c)) ⊢ (kvAll m c : sProp 𝕄) :=
  BIBase.Entails.of_eq (BI.bigSep_erase (Finset.mem_univ h)).symm

theorem k_ld1 (h : Fin 8) {hl : kvM.view.LoadsAt (slotRect h).toLoadRect}
    {k : Vec F S1x2048x128 .f32 → Prog (TpuEff nD τ sig (Elt F) Λ₀ .tc) α} :
    (at_ c (kSl h) (kV m c h) : sProp 𝕄) ⊢ iprop((at_ c (kSl h) (kV m c h) -∗ wpp c (k (kV m c h)) Q)
      -∗ wpp c (.op (.load kvM (slotRect h).toLoadRect hl) k) Q) :=
  Own.load_slice (c : Thread nD τ) 𝒱₀ none Set.univ (fun _ => rfl)
theorem v_ld1 (h : Fin 8) {hl : vvM.view.LoadsAt (slotRect h).toLoadRect}
    {k : Vec F S1x2048x128 .f32 → Prog (TpuEff nD τ sig (Elt F) Λ₀ .tc) α} :
    (at_ c (vSl h) (vV m c h) : sProp 𝕄) ⊢ iprop((at_ c (vSl h) (vV m c h) -∗ wpp c (k (vV m c h)) Q)
      -∗ wpp c (.op (.load vvM (slotRect h).toLoadRect hl) k) Q) :=
  Own.load_slice (c : Thread nD τ) 𝒱₀ none Set.univ (fun _ => rfl)

theorem k_ld (h : Fin 8) {hl : kvM.view.LoadsAt (slotRect h).toLoadRect}
    {k : Vec F S1x2048x128 .f32 → Prog (TpuEff nD τ sig (Elt F) Λ₀ .tc) α} :
    (kvAll m c : sProp 𝕄) ⊢ iprop((kvAll m c -∗ wpp c (k (kV m c h)) Q)
      -∗ wpp c (.op (.load kvM (slotRect h).toLoadRect hl) k) Q) := by
  iintro H Hk
  ihave H' := (kvAll_erase m c h) $$ H
  unfold kvOne
  icases H' with ⟨⟨H1, H2⟩, H3⟩
  iapply (k_ld1 m c h) $$ H1
  iintro H1; iapply Hk
  iapply (kvAll_insert m c h); unfold kvOne
  isplitr [H3]
  · isplitl [H1] <;> iassumption
  · iexact H3
theorem v_ld (h : Fin 8) {hl : vvM.view.LoadsAt (slotRect h).toLoadRect}
    {k : Vec F S1x2048x128 .f32 → Prog (TpuEff nD τ sig (Elt F) Λ₀ .tc) α} :
    (kvAll m c : sProp 𝕄) ⊢ iprop((kvAll m c -∗ wpp c (k (vV m c h)) Q)
      -∗ wpp c (.op (.load vvM (slotRect h).toLoadRect hl) k) Q) := by
  iintro H Hk
  ihave H' := (kvAll_erase m c h) $$ H
  unfold kvOne
  icases H' with ⟨⟨H1, H2⟩, H3⟩
  iapply (v_ld1 m c h) $$ H2
  iintro H2; iapply Hk
  iapply (kvAll_insert m c h); unfold kvOne
  isplitr [H3]
  · isplitl [H1] <;> iassumption
  · iexact H3

/-! ## The inputs and the rows -/

theorem x_ld (r : Fin 4) {b : BitVec 32} (hb : b = BitVec.ofNat 32 r.val)
    {hin : ∀ a, k0_off1 c b a + S1x128x1024.size a ≤ S1x512x1024.size a}
    {hl : xM.view.LoadsAt (Rect.unit (s := S1x512x1024) (k0_off1 c b) S1x128x1024.size hin).toLoadRect}
    {k : Vec F S1x128x1024 .f32 → Prog (TpuEff nD τ sig (Elt F) Λ₀ .tc) α} :
    (at_ c xM (xS m c) : sProp 𝕄) ⊢ iprop((at_ c xM (xS m c) -∗ wpp c (k (xRow m c r)) Q)
      -∗ wpp c (.op (.load xM (Rect.unit (s := S1x512x1024) (k0_off1 c b) S1x128x1024.size hin).toLoadRect hl) k) Q) := by
  subst hb
  exact Own.load_sub (c : Thread nD τ) 𝒱₀ none (defs := defs₀ (F := F)) Set.univ (Q := Q) (Γ := []) (hl := hl) (k := k) (X := xS m c)
    (Name := ℕ) (U := UU) (Lvl := ℕ)

theorem p_ld (r : Fin 4) {X : Vec F S1x128x1024 .f32} {hl : pM.view.LoadsAt (pRect r).toLoadRect}
    {k : Vec F S1x128x1024 .f32 → Prog (TpuEff nD τ sig (Elt F) Λ₀ .tc) α} :
    (at_ c (pSl r) X : sProp 𝕄) ⊢ iprop((at_ c (pSl r) X -∗ wpp c (k X) Q) -∗ wpp c (.op (.load pM (pRect r).toLoadRect hl) k) Q) :=
  Own.load_slice (c : Thread nD τ) 𝒱₀ none Set.univ (fun _ => rfl)
theorem p_st (r : Fin 4) {X w : Vec F S1x128x1024 .f32} {hx : (pM.access (pRect r)).Stores Finset.univ}
    {hm : (Finset.univ : Finset (pRect r).shape.Idx) = Finset.univ ∨ ∀ a, (pRect r).stride a = 1}
    {k : PUnit → Prog (TpuEff nD τ sig (Elt F) Λ₀ .tc) α} :
    (at_ c (pSl r) X : sProp 𝕄) ⊢ iprop((at_ c (pSl r) w -∗ wpp c (k ⟨⟩) Q) -∗ wpp c (.op (.store pM (pRect r) w Finset.univ hx hm) k) Q) :=
  Own.store_slice (c : Thread nD τ) 𝒱₀ none Set.univ (fun _ => rfl)
theorem s_ld (r : Fin 2) {X : Vec F S1x128x1024 .f32} {hl : sM.view.LoadsAt (sRect r).toLoadRect}
    {k : Vec F S1x128x1024 .f32 → Prog (TpuEff nD τ sig (Elt F) Λ₀ .tc) α} :
    (at_ c (sSl r) X : sProp 𝕄) ⊢ iprop((at_ c (sSl r) X -∗ wpp c (k X) Q) -∗ wpp c (.op (.load sM (sRect r).toLoadRect hl) k) Q) :=
  Own.load_slice (c : Thread nD τ) 𝒱₀ none Set.univ (fun _ => rfl)
theorem s_st (r : Fin 2) {X w : Vec F S1x128x1024 .f32} {hx : (sM.access (sRect r)).Stores Finset.univ}
    {hm : (Finset.univ : Finset (sRect r).shape.Idx) = Finset.univ ∨ ∀ a, (sRect r).stride a = 1}
    {k : PUnit → Prog (TpuEff nD τ sig (Elt F) Λ₀ .tc) α} :
    (at_ c (sSl r) X : sProp 𝕄) ⊢ iprop((at_ c (sSl r) w -∗ wpp c (k ⟨⟩) Q) -∗ wpp c (.op (.store sM (sRect r) w Finset.univ hx hm) k) Q) :=
  Own.store_slice (c : Thread nD τ) 𝒱₀ none Set.univ (fun _ => rfl)
theorem r_ld (r : Fin 3) {X : Vec F S1x128x1024 .f32} {hl : rM.view.LoadsAt (rRect r).toLoadRect}
    {k : Vec F S1x128x1024 .f32 → Prog (TpuEff nD τ sig (Elt F) Λ₀ .tc) α} :
    (at_ c (rSl r) X : sProp 𝕄) ⊢ iprop((at_ c (rSl r) X -∗ wpp c (k X) Q) -∗ wpp c (.op (.load rM (rRect r).toLoadRect hl) k) Q) :=
  Own.load_slice (c : Thread nD τ) 𝒱₀ none Set.univ (fun _ => rfl)

/-- A row as the copies hold it, and back. -/
theorem row_sq {M : Memref sig .tc .vmem S1x128x1024 .f32} (X : Vec F S1x128x1024 .f32) : (at_ c M X : sProp 𝕄) ⊢ at_ c (sqRow M) (sq X) :=
  Own.owns_squeeze (c : Thread nD τ) M _ _ _ X
theorem row_unsq {M : Memref sig .tc .vmem S1x128x1024 .f32} (X : Vec F S128x1024 .f32) : (at_ c (sqRow M) X : sProp 𝕄) ⊢ at_ c M (unsq X) :=
  Own.owns_unsqueeze (c : Thread nD τ) M _ _ _ X
theorem row_back {M : Memref sig .tc .vmem S1x128x1024 .f32} (X : Vec F S1x128x1024 .f32) : (at_ c (sqRow M) (sq X) : sProp 𝕄) ⊢ at_ c M X := by
  have h := row_unsq (F := F) c (M := M) (sq X)
  rw [unsq_sq] at h
  exact h

/-! ## The result -/

/-- The row blocks listed are at the result. -/
def outAt (bs : List (Dev nD)) : sProp 𝕄 :=
  iprop(∃ X : Vec F S1x512x1024 .f32, ⌜∀ b ∈ bs, ∀ i, (i 1).val / 128 = b.val → X i = outV m i⌝ ∗ at_ c outM X)

theorem inbO (b : Dev nD) : ∀ a, (![0, 128 * b.val, 0] : Fin 3 → ℕ) a + S1x128x1024.size a ≤ S1x512x1024.size a := by revert b; decide
abbrev outRect (b : Dev nD) : Rect S1x512x1024 := Rect.unit (s := S1x512x1024) ![0, 128 * b.val, 0] S1x128x1024.size (inbO b)

theorem out_start (X : Vec F S1x512x1024 .f32) : (at_ c outM X : sProp 𝕄) ⊢ outAt m c [] := by
  unfold outAt
  iintro H; iexists X
  isplitr
  · ipureintro; intro b hb; exact absurd hb List.not_mem_nil
  · iexact H

theorem out_full (bs : List (Dev nD)) (hbs : ∀ b, b ∈ bs) : (outAt m c bs : sProp 𝕄) ⊢ at_ c outM (outV m) := by
  unfold outAt
  iintro ⟨%X, %hX, H⟩
  have e : X = outV m := funext fun i =>
    hX ⟨(i 1).val / 128, by have : (i 1).val < 512 := (i 1).isLt; show _ < 4; omega⟩ (hbs _) i rfl
  subst e
  iexact H

theorem out_ld (bs : List (Dev nD)) {off : Fin 3 → ℕ} {hin : ∀ a, off a + S1x128x1024.size a ≤ S1x512x1024.size a}
    {hl : outM.view.LoadsAt (Rect.unit (s := S1x512x1024) off S1x128x1024.size hin).toLoadRect}
    {k : Prog (TpuEff nD τ sig (Elt F) Λ₀ .tc) α} :
    outAt m c bs ⊢ iprop((outAt m c bs -∗ wpp c k Q)
      -∗ wpp c (.op (.load outM (Rect.unit (s := S1x512x1024) off S1x128x1024.size hin).toLoadRect hl) (fun _ => k)) Q) := by
  unfold outAt
  iintro ⟨%A, %hA, H⟩ Hk
  iapply (Own.load_sub (c : Thread nD τ) 𝒱₀ none Set.univ) $$ H
  iintro H; iapply Hk
  iexists A
  isplitr
  · ipureintro; exact hA
  · iexact H

theorem pay61_apply (X : Vec F S128x1024 .f32) (i : S1x128x1024.Idx) (j : S128x1024.Idx) (h0 : (j 0).val = (i 1).val) (h1 : (j 1).val = (i 2).val) :
    k0_pay61 X i = X j := by
  show shapeCast S1x128x1024 X _ i = X j
  refine shapeCast_apply X _ i j ?_
  have hu : (i 0).val = 0 := by have : (i 0).val < 1 := (i 0).isLt; omega
  rw [Shape.rowMajor_val_three, Shape.rowMajor_val_two]
  show (j 0).val * 1024 + (j 1).val = ((i 0).val * 128 + (i 1).val) * 1024 + (i 2).val
  rw [hu, h0, h1, Nat.zero_mul, Nat.zero_add]

theorem outV_at (b : Dev nD) (i : S1x128x1024.Idx) : outV m ((outRect b).emb i) = k0_pay61 (fin m b) i := by
  have h0 : (i 1).val < 128 := (i 1).isLt
  have e1 : (((outRect b).emb i) 1).val = 128 * b.val + (i 1).val := by
    show 128 * b.val + 1 * (i 1).val = _; omega
  have e2 : (((outRect b).emb i) 2).val = (i 2).val := by
    show 0 + 1 * (i 2).val = _; omega
  have eb : (⟨(((outRect b).emb i) 1).val / 128, by rw [e1]; have : b.val < 4 := b.isLt; show _ < 4; omega⟩ : Dev nD) = b :=
    Fin.ext (by show _ / 128 = _; rw [e1]; omega)
  unfold outV
  rw [eb]
  refine (pay61_apply _ _ _ ?_ ?_).symm
  · show _ % 128 = _; rw [e1]; omega
  · exact e2

theorem out_st (bs : List (Dev nD)) (b : Dev nD) {off : Fin 3 → ℕ} (ho : off = ![0, 128 * b.val, 0])
    {hin : ∀ a, off a + S1x128x1024.size a ≤ S1x512x1024.size a} {w : Vec F S1x128x1024 .f32} (hw : w = k0_pay61 (fin m b))
    {hx : (outM.access (Rect.unit (s := S1x512x1024) off S1x128x1024.size hin)).Stores Finset.univ}
    {hm : (Finset.univ : Finset (Rect.unit (s := S1x512x1024) off S1x128x1024.size hin).shape.Idx) = Finset.univ
      ∨ ∀ a, (Rect.unit (s := S1x512x1024) off S1x128x1024.size hin).stride a = 1}
    {k : PUnit → Prog (TpuEff nD τ sig (Elt F) Λ₀ .tc) α} :
    outAt m c bs ⊢ iprop((outAt m c (b :: bs) -∗ wpp c (k ⟨⟩) Q)
      -∗ wpp c (.op (.store outM (Rect.unit (s := S1x512x1024) off S1x128x1024.size hin) w Finset.univ hx hm) k) Q) := by
  subst ho; subst hw
  unfold outAt
  iintro ⟨%A, %hA, H⟩ Hk
  iapply (Own.store_sub (c : Thread nD τ) 𝒱₀ none Set.univ) $$ H
  iintro H; iapply Hk
  iexists (outRect b).overlay A (k0_pay61 (fin m b))
  isplitr
  · ipureintro
    intro b' hb' i hi
    by_cases hmem : i ∈ (outRect b).set
    · obtain ⟨j, rfl⟩ := LoadRect.exists_idx_of_mem _ hmem
      exact (Rect.overlay_emb (outRect b) A _ j).trans (outV_at m b j).symm
    · rw [Rect.overlay_of_not_mem _ _ _ hmem]
      rcases List.mem_cons.mp hb' with rfl | hb'
      · refine absurd (Rect.mem_set_unit.mpr fun a => ?_) hmem
        match a with
        | ⟨0, _⟩ => exact ⟨Nat.zero_le _, by show (i 0).val < 0 + 1; have : (i 0).val < 1 := (i 0).isLt; omega⟩
        | ⟨1, _⟩ => exact ⟨by show 128 * b'.val ≤ (i 1).val; omega, by show (i 1).val < 128 * b'.val + 128; omega⟩
        | ⟨2, _⟩ => exact ⟨Nat.zero_le _, by show (i 2).val < 0 + 1024; have : (i 2).val < 1024 := (i 2).isLt; omega⟩
      · exact hA b' hb' i hi
  · iexact H

end Cert.Attn

end
-- ==== Proof.Parts.lean ====
/-
The body part by part, as the program is printed: what each part takes of what a device holds, and what it leaves.
-/
module

public import proofs.«01_k».proof.Proof.Mem

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body on the kernel's buffers. -/
abbrev onArgs {β : Type 1} (p : ∀ (arg0 : Memref sig .tc .vmem S1x512x1024 .f32) (harg0 : arg0.IsWhole) (arg1 : Memref sig .tc .vmem S1024x1024 .f32) (harg1 : arg1.IsWhole)
    (arg2 : Memref sig .tc .vmem S1024x1024 .f32) (harg2 : arg2.IsWhole) (arg3 : Memref sig .tc .hbm S1x2048x8x128 .f32) (harg3 : arg3.IsWhole)
    (arg4 : Memref sig .tc .hbm S1x2048x8x128 .f32) (harg4 : arg4.IsWhole) (arg5 : Memref sig .tc .vmem S1x512x1024 .f32) (harg5 : arg5.IsWhole)
    (arg6 : Memref sig .tc .vmem S128x1024 .f32) (harg6 : arg6.IsWhole) (arg7 : Memref sig .tc .vmem S4x128x1024 .f32) (harg7 : arg7.IsWhole)
    (arg8 : Memref sig .tc .vmem S8x2048x128 .f32) (harg8 : arg8.IsWhole) (arg9 : Memref sig .tc .vmem S8x2048x128 .f32) (harg9 : arg9.IsWhole)
    (arg10 : Memref sig .tc .vmem S2x128x1024 .f32) (harg10 : arg10.IsWhole) (arg11 : Memref sig .tc .vmem S3x128x1024 .f32) (harg11 : arg11.IsWhole)
    (arg12 : Memref sig .tc .vmem S128x1024 .f32) (harg12 : arg12.IsWhole) (arg13 : Memref sig .tc .vmem S128x1024 .f32) (harg13 : arg13.IsWhole)
    (arg14 : Memref sig .tc .vmem S128x1024 .f32) (harg14 : arg14.IsWhole) (arg15 : Memref sig .tc .vmem S128x1024 .f32) (harg15 : arg15.IsWhole)
    (arg16 : DmaSems sig S16) (arg17 : DmaSems sig S3) (arg18 : DmaSems sig S3) (arg19 : DmaSems sig S4)
    (arg20 : DmaSems sig S4), β) : β :=
  p xM (Memref.isWhole_whole _) wqM (Memref.isWhole_whole _) woM (Memref.isWhole_whole _) kA (Memref.isWhole_whole _) vA (Memref.isWhole_whole _) outM (Memref.isWhole_whole _) attnM (Memref.isWhole_whole _) pM (Memref.isWhole_whole _) kvM (Memref.isWhole_whole _) vvM (Memref.isWhole_whole _) sM (Memref.isWhole_whole _) rM (Memref.isWhole_whole _) finM (Memref.isWhole_whole _) aglM (Memref.isWhole_whole _) agrM (Memref.isWhole_whole _) agdM (Memref.isWhole_whole _) cc0_scratch10 cc0_scratch11 cc0_scratch12 cc0_scratch13 cc0_scratch14

variable (m : (ℓ : Loc nD τ sig) → Buf (Elt F) ℓ) (K : Dev nD × Cell → ℕ) (c : Dev nD)

/-! ## The two halves of a gathered block -/

theorem half_disjoint : ∀ t t' : Fin 2, t ≠ t' → Disjoint (halfRect t).set (halfRect t').set :=
  Own.axis_disjoint (sh := S128x1024) 1 512 (fun t : Fin 2 => ![0, 512 * t.val]) S128x512.size inbHalf (fun _ => rfl) rfl
theorem half_cover : (Finset.univ : Finset (Fin 2)).biUnion (fun t => (halfRect t).set) = Finset.univ :=
  Own.axis_cover (sh := S128x1024) 1 512 (by decide) (fun t : Fin 2 => ![0, 512 * t.val]) S128x512.size inbHalf (fun _ => rfl) rfl rfl (by decide)

section
variable (M : Memref sig .tc .vmem S128x1024 .f32) (X : Vec F S128x1024 .f32)

theorem halves_eq : (BI.bigSep Finset.univ (fun t : Fin 2 => at_ c (M.slice (halfRect t) (fun _ => rfl)) (fun j => X ((halfRect t).emb j))) : sProp 𝕄)
    = iprop(at_ c (M.slice (halfRect 0) (fun _ => rfl)) (fun j => X ((halfRect 0).emb j)) ∗ at_ c (M.slice (halfRect 1) (fun _ => rfl)) (fun j => X ((halfRect 1).emb j))) := by
  rw [bigSep_univ_eq_bigSepL [0, 1] (by decide) (by decide), bigSepL_cons_cons, bigSepL_singleton]; rfl
theorem halves_split : (at_ c M X : sProp 𝕄)
    ⊢ iprop(at_ c (M.slice (halfRect 0) (fun _ => rfl)) (fun j => X ((halfRect 0).emb j)) ∗ at_ c (M.slice (halfRect 1) (fun _ => rfl)) (fun j => X ((halfRect 1).emb j))) :=
  (owns_rects (c : Thread nD τ) M fullShare halfRect (fun _ _ => rfl) half_disjoint half_cover X).trans (BIBase.Entails.of_eq (halves_eq c M X))
theorem halves_join : (iprop(at_ c (M.slice (halfRect 0) (fun _ => rfl)) (fun j => X ((halfRect 0).emb j)) ∗ at_ c (M.slice (halfRect 1) (fun _ => rfl)) (fun j => X ((halfRect 1).emb j))) : sProp 𝕄)
    ⊢ at_ c M X :=
  (BIBase.Entails.of_eq (halves_eq c M X).symm).trans (owns_of_rects (c : Thread nD τ) M fullShare halfRect (fun _ _ => rfl) half_disjoint half_cover X)
end

section

variable {α : Type} {Q : α → sProp (MT nD τ sig Unit (Elt F) ℕ UU ℕ)}

theorem wp_done (v : α) : (Q v : sProp 𝕄) ⊢ wpp c (Prog.ret v) Q := by
  iintro H
  iapply (BIBase.Entails.of_eq (wp_ret (frame (nD := nD)) (wpE (defs₀ (F := F)) 𝒱₀ (c : Thread nD τ) none) Set.univ v Q).symm)
  imodintro; iexact H

/-! ## One head, and one block's product -/

/-- A head of block `r`: its keys and values read, its columns of the attention written. -/
theorem wp_head (r : Fin 4) (h : Fin 8) (n : ℕ) (hn : n = h.val) (pay : Vec F S1x2048x128 .f32 → Vec F S1x2048x128 .f32 → FVec F S128x128 .f32)
    (hw : pay (kV m c h) (vV m c h) = head m c r h)
    {hl1 : kvM.view.LoadsAt (slotRect h).toLoadRect} {hl2 : vvM.view.LoadsAt (slotRect h).toLoadRect} {hl3 : attnM.view.LoadsAt (colRect h).toLoadRect}
    {hx : (attnM.access (colRect h)).Stores Finset.univ}
    {hm : (Finset.univ : Finset (colRect h).shape.Idx) = Finset.univ ∨ ∀ a, (colRect h).stride a = 1}
    {k : PUnit → Prog (TpuEff nD τ sig (Elt F) Λ₀ .tc) α} :
    iprop(kvAll m c ∗ attnAt m c r n) ⊢ iprop((kvAll m c -∗ attnAt m c r (n + 1) -∗ wpp c (k ⟨⟩) Q)
      -∗ wpp c (.op (.load kvM (slotRect h).toLoadRect hl1) fun k' => .op (.load vvM (slotRect h).toLoadRect hl2) fun v' =>
          .op (.load attnM (colRect h).toLoadRect hl3) fun _ => .op (.store attnM (colRect h) (pay k' v') Finset.univ hx hm) k) Q) := by
  iintro ⟨HK, HA⟩ Hk
  iapply (k_ld m c h) $$ HK
  iintro HK
  iapply (v_ld m c h) $$ HK
  iintro HK
  iapply (attn_ld m c r n h) $$ HA
  iintro HA
  iapply (attn_st m c r h n hn hw) $$ HA
  iintro HA
  iapply Hk $$ HK HA

/-- The same as the keys and values come in. -/
theorem wp_head1 (r : Fin 4) (h : Fin 8) (n : ℕ) (hn : n = h.val) (pay : Vec F S1x2048x128 .f32 → Vec F S1x2048x128 .f32 → FVec F S128x128 .f32)
    (hw : pay (kV m c h) (vV m c h) = head m c r h)
    {hl1 : kvM.view.LoadsAt (slotRect h).toLoadRect} {hl2 : vvM.view.LoadsAt (slotRect h).toLoadRect} {hl3 : attnM.view.LoadsAt (colRect h).toLoadRect}
    {hx : (attnM.access (colRect h)).Stores Finset.univ}
    {hm : (Finset.univ : Finset (colRect h).shape.Idx) = Finset.univ ∨ ∀ a, (colRect h).stride a = 1}
    {k : PUnit → Prog (TpuEff nD τ sig (Elt F) Λ₀ .tc) α} :
    iprop(at_ c (kSl h) (kV m c h) ∗ at_ c (vSl h) (vV m c h) ∗ attnAt m c r n) ⊢ iprop((kvOne m c h -∗ attnAt m c r (n + 1) -∗ wpp c (k ⟨⟩) Q)
      -∗ wpp c (.op (.load kvM (slotRect h).toLoadRect hl1) fun k' => .op (.load vvM (slotRect h).toLoadRect hl2) fun v' =>
          .op (.load attnM (colRect h).toLoadRect hl3) fun _ => .op (.store attnM (colRect h) (pay k' v') Finset.univ hx hm) k) Q) := by
  iintro ⟨HK, HV, HA⟩ Hk
  iapply (k_ld1 m c h) $$ HK
  iintro HK
  iapply (v_ld1 m c h) $$ HV
  iintro HV
  iapply (attn_ld m c r n h) $$ HA
  iintro HA
  iapply (attn_st m c r h n hn hw) $$ HA
  iintro HA
  iapply Hk $$ [HK HV] HA
  unfold kvOne
  isplitl [HK] <;> iassumption

/-- A block's product with the output weights, once its heads are in. -/
theorem wp_proj (r r' : Fin 4) (pay : Vec F S128x1024 .f32 → Vec F S1024x1024 .f32 → FVec F S1x128x1024 .f32)
    (hw : pay (attn m c r) (woS m c) = part m c r)
    {off1 : Fin 2 → ℕ} {hin1 : ∀ a, off1 a + S128x1024.size a ≤ S128x1024.size a}
    {hl1 : attnM.view.LoadsAt (Rect.unit (s := S128x1024) off1 S128x1024.size hin1).toLoadRect}
    {off2 : Fin 2 → ℕ} {hin2 : ∀ a, off2 a + S1024x1024.size a ≤ S1024x1024.size a}
    {hl2 : woM.view.LoadsAt (Rect.unit (s := S1024x1024) off2 S1024x1024.size hin2).toLoadRect}
    {hl3 : pM.view.LoadsAt (pRect r).toLoadRect} {hx : (pM.access (pRect r)).Stores Finset.univ}
    {hm : (Finset.univ : Finset (pRect r).shape.Idx) = Finset.univ ∨ ∀ a, (pRect r).stride a = 1}
    {k : PUnit → Prog (TpuEff nD τ sig (Elt F) Λ₀ .tc) α} :
    iprop(attnAt m c r 8 ∗ at_ c woM (woS m c) ∗ free c (pSl r)) ⊢ iprop((attnAt m c r' 0 -∗ at_ c woM (woS m c) -∗ at_ c (pSl r) (part m c r) -∗ wpp c (k ⟨⟩) Q)
      -∗ wpp c (.op (.load attnM (Rect.unit (s := S128x1024) off1 S128x1024.size hin1).toLoadRect hl1) fun a' =>
          .op (.load woM (Rect.unit (s := S1024x1024) off2 S1024x1024.size hin2).toLoadRect hl2) fun w' =>
          .op (.load pM (pRect r).toLoadRect hl3) fun _ => .op (.store pM (pRect r) (pay a' w') Finset.univ hx hm) k) Q) := by
  iintro ⟨HA, HW, ⟨%X, HP⟩⟩ Hk
  ihave HA' := (attnAt_full m c r) $$ HA
  iapply (ld_full c) $$ HA'
  iintro HA
  iapply (ld_full c) $$ HW
  iintro HW
  iapply (p_ld c r) $$ HP
  iintro HP
  iapply (p_st c r) $$ HP
  rw [hw]
  iintro HP
  iapply Hk $$ [HA] HW HP
  iapply (attnAt_start m c); iexact HA

end

/-- The transfers not yet issued, after each. -/
abbrev j7 : List Pay := []
abbrev j6 : List Pay := .inr 6 :: j7
abbrev j5 : List Pay := .inr 5 :: j6
abbrev j4 : List Pay := .inr 4 :: j5
abbrev j3 : List Pay := .inr 3 :: j4
abbrev j2 : List Pay := .inr 2 :: j3
abbrev j1 : List Pay := .inr 1 :: j2
abbrev j0 : List Pay := .inr 0 :: j1

/-! ## Where the transfers land -/

theorem rcv0 : rcvPay m (tgt 0 c) 0 = at_ (tgt 0 c) (sqRow (rSl 0)) (sq (part m c 3)) := by
  show at_ (nxt c) (sqRow (rSl 0)) (R0 m (nxt c)) = _; unfold R0; rw [prv_nxt]; rfl
theorem rcv1 : rcvPay m (tgt 1 c) 1 = at_ (tgt 1 c) (sqRow (rSl 1)) (sq (S0 m c)) := by
  show at_ (nxt c) (sqRow (rSl 1)) (R1 m (nxt c)) = _; unfold R1; rw [prv_nxt]; rfl
theorem rcv2 : rcvPay m (tgt 2 c) 2 = at_ (tgt 2 c) (sqRow (rSl 2)) (sq (S1 m c)) := by
  show at_ (nxt c) (sqRow (rSl 2)) (R2 m (nxt c)) = _; unfold R2; rw [prv_nxt]; rfl
theorem rcv3 : rcvPay m (tgt 3 c) 3 = at_ (tgt 3 c) aglM (fin m c) := by
  show at_ (nxt c) aglM (fin m (prv (nxt c))) = _; rw [prv_nxt]; rfl
theorem rcv4 : rcvPay m (tgt 4 c) 4 = at_ (tgt 4 c) agrM (fin m c) := by
  show at_ (prv c) agrM (fin m (nxt (prv c))) = _; rw [nxt_prv]; rfl
theorem rcv5 : rcvPay m (tgt 5 c) 5 = at_ (tgt 5 c) (agdH 0) (finH m (prv c) 0) := by
  show at_ (nxt c) (agdH 0) (finH m (prv (prv (nxt c))) 0) = _; rw [prv_nxt]; rfl
theorem rcv6 : rcvPay m (tgt 6 c) 6 = at_ (tgt 6 c) (agdH 1) (finH m (nxt c) 1) := by
  show at_ (prv c) (agdH 1) (finH m (nxt (nxt (prv c))) 1) = _; rw [nxt_prv]; rfl

/-! ## The handshake and the copies in -/

theorem part1 {Q} :
    iprop(facts m K ∗ ow c (.inl true :: .inl false :: j0) ∗ dutyTok ER (kcell (prv c, bar)) 0 true ∗ dutyTok ER (kcell (nxt c, bar)) 0 false
        ∗ handR c ∗ handL c ∗ cred (tallyAt (kcell (c, bar)) () 2) ∗ atPos ER (kcell (c, bar)) 0 ∅ 0 ∗ ks0 m c 0)
      ⊢ iprop((ow c j0 -∗ semVal (kcell (c, bar)) 0 -∗ handL (prv c) -∗ handR (nxt c) -∗ ks1 c 0 -∗ ∀ v2 v5 v7, Q ⟨c, v2, v5, v7⟩)
        -∗ wpp c (onArgs (k0_part1 (F := F))) Q) := by
  unfold onArgs
  rw [k0_part1_eq_skeleton]
  unfold k0_part1_skel
  simp only [semSignalWord, semWaitWord, Prog.lift, Prog.bind_op, Prog.bind_ret, Prog.pure_eq_ret, Prog.bind_assoc, wp_deviceId]
  iintro ⟨#HF, HO, Ht1, Ht2, HR, HL, Hc, Ha, HK⟩ Hk
  iapply (wp_sig m K c true (⟨k0_dev1 c, k0_dev1_lt c⟩ : Dev nD) (dev1_eq c) (.inl false :: j0)) $$ [HO Ht1 HR]
  · isplitr; · iexact HF
    isplitl [HO]; · iexact HO
    isplitl [Ht1]; · iexact Ht1
    rw [show payC m (payee (.inl true) c) bar true = handR (nxt (prv c)) from rfl, nxt_prv]; iexact HR
  iintro HO
  iapply (wp_sig m K c false (⟨k0_dev2 c, k0_dev2_lt c⟩ : Dev nD) (dev2_eq c) j0) $$ [HO Ht2 HL]
  · isplitr; · iexact HF
    isplitl [HO]; · iexact HO
    isplitl [Ht2]; · iexact Ht2
    rw [show payC m (payee (.inl false) c) bar false = handL (prv (nxt c)) from rfl, prv_nxt]; iexact HL
  iintro HO
  iapply (wp_bar m K c j0 (by decide)) $$ [HO Hc Ha]
  · isplitr; · iexact HF
    isplitl [HO]; · iexact HO
    isplitl [Hc] <;> iassumption
  iintro HO Hz HL HR
  iapply (wp_kcp m K c 0) $$ [HK]
  · isplitr; · iexact HF
    iexact HK
  iintro HK
  iapply (wp_done c)
  iapply Hk $$ HO Hz HL HR HK

theorem part2 {Q} :
    iprop(facts m K ∗ vs0 m c 0 ∗ ks0 m c 1 ∗ vs0 m c 1 ∗ ks0 m c 2)
      ⊢ iprop((vs1 c 0 -∗ ks1 c 1 -∗ vs1 c 1 -∗ ks1 c 2 -∗ Q ⟨⟩) -∗ wpp c (onArgs (k0_part2 (F := F))) Q) := by
  unfold onArgs
  rw [k0_part2_eq_skeleton]
  unfold k0_part2_skel
  simp only [Prog.lift, Prog.bind_op, Prog.bind_ret, Prog.pure_eq_ret, Prog.bind_assoc]
  iintro ⟨#HF, H1, H2, H3, H4⟩ Hk
  iapply (wp_vcp m K c 0) $$ [H1]
  · isplitr; · iexact HF
    iexact H1
  iintro H1
  iapply (wp_kcp m K c 1) $$ [H2]
  · isplitr; · iexact HF
    iexact H2
  iintro H2
  iapply (wp_vcp m K c 1) $$ [H3]
  · isplitr; · iexact HF
    iexact H3
  iintro H3
  iapply (wp_kcp m K c 2) $$ [H4]
  · isplitr; · iexact HF
    iexact H4
  iintro H4
  iapply (wp_done c)
  iapply Hk $$ H1 H2 H3 H4

theorem part3 {Q} :
    iprop(facts m K ∗ vs0 m c 2 ∗ ks0 m c 3 ∗ vs0 m c 3 ∗ ks0 m c 4)
      ⊢ iprop((vs1 c 2 -∗ ks1 c 3 -∗ vs1 c 3 -∗ ks1 c 4 -∗ Q ⟨⟩) -∗ wpp c (onArgs (k0_part3 (F := F))) Q) := by
  unfold onArgs
  rw [k0_part3_eq_skeleton]
  unfold k0_part3_skel
  simp only [Prog.lift, Prog.bind_op, Prog.bind_ret, Prog.pure_eq_ret, Prog.bind_assoc]
  iintro ⟨#HF, H1, H2, H3, H4⟩ Hk
  iapply (wp_vcp m K c 2) $$ [H1]
  · isplitr; · iexact HF
    iexact H1
  iintro H1
  iapply (wp_kcp m K c 3) $$ [H2]
  · isplitr; · iexact HF
    iexact H2
  iintro H2
  iapply (wp_vcp m K c 3) $$ [H3]
  · isplitr; · iexact HF
    iexact H3
  iintro H3
  iapply (wp_kcp m K c 4) $$ [H4]
  · isplitr; · iexact HF
    iexact H4
  iintro H4
  iapply (wp_done c)
  iapply Hk $$ H1 H2 H3 H4

theorem part4 {Q} :
    iprop(facts m K ∗ vs0 m c 4 ∗ ks0 m c 5 ∗ vs0 m c 5 ∗ ks0 m c 6)
      ⊢ iprop((vs1 c 4 -∗ ks1 c 5 -∗ vs1 c 5 -∗ ks1 c 6 -∗ Q ⟨⟩) -∗ wpp c (onArgs (k0_part4 (F := F))) Q) := by
  unfold onArgs
  rw [k0_part4_eq_skeleton]
  unfold k0_part4_skel
  simp only [Prog.lift, Prog.bind_op, Prog.bind_ret, Prog.pure_eq_ret, Prog.bind_assoc]
  iintro ⟨#HF, H1, H2, H3, H4⟩ Hk
  iapply (wp_vcp m K c 4) $$ [H1]
  · isplitr; · iexact HF
    iexact H1
  iintro H1
  iapply (wp_kcp m K c 5) $$ [H2]
  · isplitr; · iexact HF
    iexact H2
  iintro H2
  iapply (wp_vcp m K c 5) $$ [H3]
  · isplitr; · iexact HF
    iexact H3
  iintro H3
  iapply (wp_kcp m K c 6) $$ [H4]
  · isplitr; · iexact HF
    iexact H4
  iintro H4
  iapply (wp_done c)
  iapply Hk $$ H1 H2 H3 H4

theorem part5 (v2 : BitVec 32) {Q} :
    iprop(facts m K ∗ vs0 m c 6 ∗ ks0 m c 7 ∗ vs0 m c 7 ∗ at_ c xM (xS m c) ∗ at_ c wqM (wqS m c))
      ⊢ iprop((vs1 c 6 -∗ ks1 c 7 -∗ vs1 c 7 -∗ at_ c xM (xS m c) -∗ at_ c wqM (wqS m c) -∗ Q (qB m c 3))
        -∗ wpp c (onArgs (k0_part5 (F := F)) c v2) Q) := by
  unfold onArgs
  rw [k0_part5_eq_skeleton]
  unfold k0_part5_skel
  simp only [Prog.lift, Prog.bind_op, Prog.bind_ret, Prog.pure_eq_ret, Prog.bind_assoc]
  iintro ⟨#HF, H1, H2, H3, HX, HW⟩ Hk
  iapply (wp_vcp m K c 6) $$ [H1]
  · isplitr; · iexact HF
    iexact H1
  iintro H1
  iapply (wp_kcp m K c 7) $$ [H2]
  · isplitr; · iexact HF
    iexact H2
  iintro H2
  iapply (wp_vcp m K c 7) $$ [H3]
  · isplitr; · iexact HF
    iexact H3
  iintro H3
  iapply (x_ld m c 3 rfl) $$ HX
  iintro HX
  iapply (ld_full c) $$ HW
  iintro HW
  rw [show k0_pay2 (xRow m c 3) (wqS m c) = qB m c 3 from rfl]
  iapply (wp_done c)
  iapply Hk $$ H1 H2 H3 HX HW

/-! ## The first block -/

theorem part6 (js : List Pay) {Q} :
    iprop(facts m K ∗ ow c js ∗ ks1 c 0 ∗ vs1 c 0 ∗ attnAt m c 3 0)
      ⊢ iprop((ow c js -∗ ks2 m c 0 -∗ vs2 m c 0 -∗ kvOne m c 0 -∗ attnAt m c 3 1 -∗ Q ⟨⟩)
        -∗ wpp c (onArgs (k0_part6 (F := F)) (qB m c 3)) Q) := by
  unfold onArgs
  rw [k0_part6_eq_skeleton]
  unfold k0_part6_skel
  simp only [Prog.lift, Prog.bind_op, Prog.bind_ret, Prog.pure_eq_ret, Prog.bind_assoc]
  iintro ⟨#HF, HO, HK, HV, HA⟩ Hk
  iapply (wp_kwt m K c 0 js rfl) $$ [HO HK]
  · isplitr; · iexact HF
    isplitl [HO] <;> iassumption
  iintro HO HK2 HK
  iapply (wp_vwt m K c 0 js rfl) $$ [HO HV]
  · isplitr; · iexact HF
    isplitl [HO] <;> iassumption
  iintro HO HV2 HV
  iapply (wp_head1 m c 3 0 0 rfl (k0_pay3 (qB m c 3)) rfl) $$ [HK HV HA]
  · isplitl [HK]; · iexact HK
    isplitl [HV] <;> iassumption
  iintro HK HA
  iapply (wp_done c)
  iapply Hk $$ HO HK2 HV2 HK HA

theorem part7 (js : List Pay) {Q} :
    iprop(facts m K ∗ ow c js ∗ ks1 c 1 ∗ vs1 c 1 ∗ attnAt m c 3 1)
      ⊢ iprop((ow c js -∗ ks2 m c 1 -∗ vs2 m c 1 -∗ kvOne m c 1 -∗ attnAt m c 3 2 -∗ Q ⟨⟩)
        -∗ wpp c (onArgs (k0_part7 (F := F)) (qB m c 3)) Q) := by
  unfold onArgs
  rw [k0_part7_eq_skeleton]
  unfold k0_part7_skel
  simp only [Prog.lift, Prog.bind_op, Prog.bind_ret, Prog.pure_eq_ret, Prog.bind_assoc]
  iintro ⟨#HF, HO, HK, HV, HA⟩ Hk
  iapply (wp_kwt m K c 1 js rfl) $$ [HO HK]
  · isplitr; · iexact HF
    isplitl [HO] <;> iassumption
  iintro HO HK2 HK
  iapply (wp_vwt m K c 1 js rfl) $$ [HO HV]
  · isplitr; · iexact HF
    isplitl [HO] <;> iassumption
  iintro HO HV2 HV
  iapply (wp_head1 m c 3 1 1 rfl (k0_pay4 (qB m c 3)) rfl) $$ [HK HV HA]
  · isplitl [HK]; · iexact HK
    isplitl [HV] <;> iassumption
  iintro HK HA
  iapply (wp_done c)
  iapply Hk $$ HO HK2 HV2 HK HA

/-- Head `h` of the first block, its values' copy still to be waited for, and the wait for the next head's keys. -/
theorem wp_step (h h' : Fin 8) (js : List Pay) (n : ℕ) (hn : n = h.val)
    (pay : Vec F S1x2048x128 .f32 → Vec F S1x2048x128 .f32 → FVec F S128x128 .f32) (hw : pay (kV m c h) (vV m c h) = head m c 3 h)
    {s1 s2 : DmaSem sig} (h1 : SemLoc.dma s1 = csem (vst h)) (h2 : SemLoc.dma s2 = csem (kst h'))
    {hsrc1 : (sqSrc (vSrc h)).view.WordExact} {hdst1 : (sqSlot (vSl h)).view.WordExact}
    {hsrc2 : (sqSrc (kSrc h')).view.WordExact} {hdst2 : (sqSlot (kSl h')).view.WordExact}
    {hl1 : kvM.view.LoadsAt (slotRect h).toLoadRect} {hl2 : vvM.view.LoadsAt (slotRect h).toLoadRect} {hl3 : attnM.view.LoadsAt (colRect h).toLoadRect}
    {hx : (attnM.access (colRect h)).Stores Finset.univ}
    {hm : (Finset.univ : Finset (colRect h).shape.Idx) = Finset.univ ∨ ∀ a, (colRect h).stride a = 1}
    {α : Type} {Q : α → sProp (MT nD τ sig Unit (Elt F) ℕ UU ℕ)} {k : PUnit → Prog (TpuEff nD τ sig (Elt F) Λ₀ .tc) α} :
    iprop(facts m K ∗ ow c js ∗ at_ c (kSl h) (kV m c h) ∗ vs1 c h ∗ attnAt m c 3 n ∗ ks1 c h')
      ⊢ iprop((ow c js -∗ vs2 m c h -∗ kvOne m c h -∗ attnAt m c 3 (n + 1) -∗ ks2 m c h' -∗ at_ c (kSl h') (kV m c h') -∗ wpp c (k ⟨⟩) Q)
        -∗ wpp c (.op (.waitDma2 s1 (sqSrc (vSrc h)) (sqSlot (vSl h)) hsrc1 hdst1) fun _ =>
          .op (.load kvM (slotRect h).toLoadRect hl1) fun k' => .op (.load vvM (slotRect h).toLoadRect hl2) fun v' =>
          .op (.load attnM (colRect h).toLoadRect hl3) fun _ => .op (.store attnM (colRect h) (pay k' v') Finset.univ hx hm) fun _ =>
          .op (.waitDma2 s2 (sqSrc (kSrc h')) (sqSlot (kSl h')) hsrc2 hdst2) k) Q) := by
  iintro ⟨#HF, HO, HK, HV, HA, HK'⟩ Hk
  iapply (wp_vwt m K c h js h1) $$ [HO HV]
  · isplitr; · iexact HF
    isplitl [HO] <;> iassumption
  iintro HO HV2 HV
  iapply (wp_head1 m c 3 h n hn pay hw) $$ [HK HV HA]
  · isplitl [HK]; · iexact HK
    isplitl [HV] <;> iassumption
  iintro HK HA
  iapply (wp_kwt m K c h' js h2) $$ [HO HK']
  · isplitr; · iexact HF
    isplitl [HO] <;> iassumption
  iintro HO HK2 HK'
  iapply Hk $$ HO HV2 HK HA HK2 HK'

theorem part8 (js : List Pay) {Q} :
    iprop(facts m K ∗ ow c js ∗ ks1 c 2 ∗ vs1 c 2 ∗ attnAt m c 3 2 ∗ ks1 c 3)
      ⊢ iprop((ow c js -∗ ks2 m c 2 -∗ vs2 m c 2 -∗ kvOne m c 2 -∗ attnAt m c 3 3 -∗ ks2 m c 3 -∗ at_ c (kSl 3) (kV m c 3) -∗ Q ⟨⟩)
        -∗ wpp c (onArgs (k0_part8 (F := F)) (qB m c 3)) Q) := by
  unfold onArgs
  rw [k0_part8_eq_skeleton]
  unfold k0_part8_skel
  simp only [Prog.lift, Prog.bind_op, Prog.bind_ret, Prog.pure_eq_ret, Prog.bind_assoc]
  iintro ⟨#HF, HO, HK, HV, HA, HK'⟩ Hk
  iapply (wp_kwt m K c 2 js rfl) $$ [HO HK]
  · isplitr; · iexact HF
    isplitl [HO] <;> iassumption
  iintro HO HK2 HK
  iapply (wp_step m K c 2 3 js 2 rfl (k0_pay5 (qB m c 3)) rfl rfl rfl) $$ [HO HK HV HA HK']
  · isplitr; · iexact HF
    isplitl [HO]; · iexact HO
    isplitl [HK]; · iexact HK
    isplitl [HV]; · iexact HV
    isplitl [HA] <;> iassumption
  iintro HO HV2 HK HA HK2' HK'
  iapply (wp_done c)
  iapply Hk $$ HO HK2 HV2 HK HA HK2' HK'

theorem part9 (js : List Pay) {Q} :
    iprop(facts m K ∗ ow c js ∗ at_ c (kSl 3) (kV m c 3) ∗ vs1 c 3 ∗ attnAt m c 3 3 ∗ ks1 c 4)
      ⊢ iprop((ow c js -∗ vs2 m c 3 -∗ kvOne m c 3 -∗ attnAt m c 3 4 -∗ ks2 m c 4 -∗ at_ c (kSl 4) (kV m c 4) -∗ Q ⟨⟩)
        -∗ wpp c (onArgs (k0_part9 (F := F)) (qB m c 3)) Q) := by
  unfold onArgs
  rw [k0_part9_eq_skeleton]
  unfold k0_part9_skel
  simp only [Prog.lift, Prog.bind_op, Prog.bind_ret, Prog.pure_eq_ret, Prog.bind_assoc]
  iintro H Hk
  iapply (wp_step m K c 3 4 js 3 rfl (k0_pay6 (qB m c 3)) rfl rfl rfl) $$ H
  iintro HO HV2 HK HA HK2' HK'
  iapply (wp_done c)
  iapply Hk $$ HO HV2 HK HA HK2' HK'

theorem part10 (js : List Pay) {Q} :
    iprop(facts m K ∗ ow c js ∗ at_ c (kSl 4) (kV m c 4) ∗ vs1 c 4 ∗ attnAt m c 3 4 ∗ ks1 c 5)
      ⊢ iprop((ow c js -∗ vs2 m c 4 -∗ kvOne m c 4 -∗ attnAt m c 3 5 -∗ ks2 m c 5 -∗ at_ c (kSl 5) (kV m c 5) -∗ Q ⟨⟩)
        -∗ wpp c (onArgs (k0_part10 (F := F)) (qB m c 3)) Q) := by
  unfold onArgs
  rw [k0_part10_eq_skeleton]
  unfold k0_part10_skel
  simp only [Prog.lift, Prog.bind_op, Prog.bind_ret, Prog.pure_eq_ret, Prog.bind_assoc]
  iintro H Hk
  iapply (wp_step m K c 4 5 js 4 rfl (k0_pay7 (qB m c 3)) rfl rfl rfl) $$ H
  iintro HO HV2 HK HA HK2' HK'
  iapply (wp_done c)
  iapply Hk $$ HO HV2 HK HA HK2' HK'

theorem part11 (js : List Pay) {Q} :
    iprop(facts m K ∗ ow c js ∗ at_ c (kSl 5) (kV m c 5) ∗ vs1 c 5 ∗ attnAt m c 3 5 ∗ ks1 c 6)
      ⊢ iprop((ow c js -∗ vs2 m c 5 -∗ kvOne m c 5 -∗ attnAt m c 3 6 -∗ ks2 m c 6 -∗ at_ c (kSl 6) (kV m c 6) -∗ Q ⟨⟩)
        -∗ wpp c (onArgs (k0_part11 (F := F)) (qB m c 3)) Q) := by
  unfold onArgs
  rw [k0_part11_eq_skeleton]
  unfold k0_part11_skel
  simp only [Prog.lift, Prog.bind_op, Prog.bind_ret, Prog.pure_eq_ret, Prog.bind_assoc]
  iintro H Hk
  iapply (wp_step m K c 5 6 js 5 rfl (k0_pay8 (qB m c 3)) rfl rfl rfl) $$ H
  iintro HO HV2 HK HA HK2' HK'
  iapply (wp_done c)
  iapply Hk $$ HO HV2 HK HA HK2' HK'

theorem part12 (js : List Pay) {Q} :
    iprop(facts m K ∗ ow c js ∗ at_ c (kSl 6) (kV m c 6) ∗ vs1 c 6 ∗ attnAt m c 3 6 ∗ ks1 c 7)
      ⊢ iprop((ow c js -∗ vs2 m c 6 -∗ kvOne m c 6 -∗ attnAt m c 3 7 -∗ ks2 m c 7 -∗ at_ c (kSl 7) (kV m c 7) -∗ Q ⟨⟩)
        -∗ wpp c (onArgs (k0_part12 (F := F)) (qB m c 3)) Q) := by
  unfold onArgs
  rw [k0_part12_eq_skeleton]
  unfold k0_part12_skel
  simp only [Prog.lift, Prog.bind_op, Prog.bind_ret, Prog.pure_eq_ret, Prog.bind_assoc]
  iintro H Hk
  iapply (wp_step m K c 6 7 js 6 rfl (k0_pay9 (qB m c 3)) rfl rfl rfl) $$ H
  iintro HO HV2 HK HA HK2' HK'
  iapply (wp_done c)
  iapply Hk $$ HO HV2 HK HA HK2' HK'

theorem part13 (js : List Pay) (v7 : BitVec 32) {Q} :
    iprop(facts m K ∗ ow c js ∗ at_ c (kSl 7) (kV m c 7) ∗ vs1 c 7 ∗ attnAt m c 3 7 ∗ at_ c woM (woS m c) ∗ free c (pSl 3))
      ⊢ iprop((ow c js -∗ vs2 m c 7 -∗ kvOne m c 7 -∗ attnAt m c 2 0 -∗ at_ c woM (woS m c) -∗ at_ c (pSl 3) (part m c 3) -∗ Q ⟨⟩)
        -∗ wpp c (onArgs (k0_part13 (F := F)) v7 (qB m c 3)) Q) := by
  unfold onArgs
  rw [k0_part13_eq_skeleton]
  unfold k0_part13_skel
  simp only [Prog.lift, Prog.bind_op, Prog.bind_ret, Prog.pure_eq_ret, Prog.bind_assoc]
  iintro ⟨#HF, HO, HK, HV, HA, HW, HP⟩ Hk
  iapply (wp_vwt m K c 7 js rfl) $$ [HO HV]
  · isplitr; · iexact HF
    isplitl [HO] <;> iassumption
  iintro HO HV2 HV
  iapply (wp_head1 m c 3 7 7 rfl (k0_pay10 (qB m c 3)) rfl) $$ [HK HV HA]
  · isplitl [HK]; · iexact HK
    isplitl [HV] <;> iassumption
  iintro HK HA
  iapply (wp_proj m c 3 2 k0_pay11 rfl) $$ [HA HW HP]
  · isplitl [HA]; · iexact HA
    isplitl [HW]; · iexact HW
    iexact HP
  iintro HA HW HP
  iapply (wp_done c)
  iapply Hk $$ HO HV2 HK HA HW HP

/-! ## The second block -/

theorem part14 (v2 : BitVec 32) {Q} :
    iprop(facts m K ∗ ow c j0 ∗ tr0 c 0 ∗ at_ c (pSl 3) (part m c 3) ∗ free (nxt c) (sqRow (rSl 0)) ∗ at_ c xM (xS m c) ∗ at_ c wqM (wqS m c)
        ∗ kvAll m c ∗ attnAt m c 2 0)
      ⊢ iprop((ow c j1 -∗ tr1 c 0 -∗ at_ c xM (xS m c) -∗ at_ c wqM (wqS m c) -∗ kvAll m c -∗ attnAt m c 2 1
          -∗ Q ⟨qB m c 2, k0_pay14 (xRow m c 2) (wqS m c) (kV m c 1)⟩)
        -∗ wpp c (onArgs (k0_part14 (F := F)) c v2) Q) := by
  unfold onArgs
  rw [k0_part14_eq_skeleton]
  unfold k0_part14_skel
  simp only [Prog.lift, Prog.bind_op, Prog.bind_ret, Prog.pure_eq_ret, Prog.bind_assoc]
  iintro ⟨#HF, HO, HT, HP, HR, HX, HW, HK, HA⟩ Hk
  iapply (wp_xf m K c 0 (⟨k0_dev3 c, k0_dev3_lt c⟩ : Dev nD) (dev3_eq c) fullShare (sq (part m c 3)) rfl (rcv0 m c) rfl j1 rfl rfl) $$ [HO HT HP HR]
  · isplitr; · iexact HF
    isplitl [HP]; · iapply (row_sq c); iexact HP
    isplitl [HR]; · iexact HR
    isplitl [HO] <;> iassumption
  iintro HO HT
  iapply (x_ld m c 2 rfl) $$ HX
  iintro HX
  iapply (ld_full c) $$ HW
  iintro HW
  iapply (wp_head m c 2 0 0 rfl (k0_pay13 (xRow m c 2) (wqS m c)) rfl) $$ [HK HA]
  · isplitl [HK] <;> iassumption
  iintro HK HA
  iapply (k_ld m c 1) $$ HK
  iintro HK
  rw [show k0_pay12 (xRow m c 2) (wqS m c) = qB m c 2 from rfl]
  iapply (wp_done c)
  iapply Hk $$ HO HT HX HW HK HA

theorem part15 {Q} :
    iprop(kvAll m c ∗ attnAt m c 2 1)
      ⊢ iprop((kvAll m c -∗ attnAt m c 2 3 -∗ Q ⟨k0_pay17 (qB m c 2) (kV m c 3), k0_pay18 (qB m c 2) (kV m c 3)⟩)
        -∗ wpp c (onArgs (k0_part15 (F := F)) (qB m c 2) (k0_pay14 (xRow m c 2) (wqS m c) (kV m c 1))) Q) := by
  unfold onArgs
  rw [k0_part15_eq_skeleton]
  unfold k0_part15_skel
  simp only [Prog.lift, Prog.bind_op, Prog.bind_ret, Prog.pure_eq_ret, Prog.bind_assoc]
  iintro ⟨HK, HA⟩ Hk
  iapply (v_ld m c 1) $$ HK
  iintro HK
  iapply (attn_ld m c 2 1 1) $$ HA
  iintro HA
  iapply (attn_st m c 2 1 1 rfl rfl) $$ HA
  iintro HA
  iapply (wp_head m c 2 2 2 rfl (k0_pay16 (qB m c 2)) rfl) $$ [HK HA]
  · isplitl [HK] <;> iassumption
  iintro HK HA
  iapply (k_ld m c 3) $$ HK
  iintro HK
  iapply (wp_done c)
  iapply Hk $$ HK HA

theorem part16 {Q} :
    iprop(kvAll m c ∗ attnAt m c 2 3)
      ⊢ iprop((kvAll m c -∗ attnAt m c 2 5 -∗ Q ⟨k0_pay22 (qB m c 2) (kV m c 5) (vV m c 5), k0_pay23 (qB m c 2) (kV m c 5)⟩)
        -∗ wpp c (onArgs (k0_part16 (F := F)) (qB m c 2) (k0_pay17 (qB m c 2) (kV m c 3)) (k0_pay18 (qB m c 2) (kV m c 3))) Q) := by
  unfold onArgs
  rw [k0_part16_eq_skeleton]
  unfold k0_part16_skel
  simp only [Prog.lift, Prog.bind_op, Prog.bind_ret, Prog.pure_eq_ret, Prog.bind_assoc]
  iintro ⟨HK, HA⟩ Hk
  iapply (v_ld m c 3) $$ HK
  iintro HK
  iapply (attn_ld m c 2 3 3) $$ HA
  iintro HA
  iapply (attn_st m c 2 3 3 rfl rfl) $$ HA
  iintro HA
  iapply (wp_head m c 2 4 4 rfl (k0_pay20 (qB m c 2)) rfl) $$ [HK HA]
  · isplitl [HK] <;> iassumption
  iintro HK HA
  iapply (k_ld m c 5) $$ HK
  iintro HK
  iapply (v_ld m c 5) $$ HK
  iintro HK
  iapply (wp_done c)
  iapply Hk $$ HK HA

theorem part17 {Q} :
    iprop(kvAll m c ∗ attnAt m c 2 5)
      ⊢ iprop((kvAll m c -∗ attnAt m c 2 7 -∗ Q (head m c 2 7))
        -∗ wpp c (onArgs (k0_part17 (F := F)) (qB m c 2) (k0_pay22 (qB m c 2) (kV m c 5) (vV m c 5)) (k0_pay23 (qB m c 2) (kV m c 5))) Q) := by
  unfold onArgs
  rw [k0_part17_eq_skeleton]
  unfold k0_part17_skel
  simp only [Prog.lift, Prog.bind_op, Prog.bind_ret, Prog.pure_eq_ret, Prog.bind_assoc]
  iintro ⟨HK, HA⟩ Hk
  iapply (attn_ld m c 2 5 5) $$ HA
  iintro HA
  iapply (attn_st m c 2 5 5 rfl rfl) $$ HA
  iintro HA
  iapply (wp_head m c 2 6 6 rfl (k0_pay25 (qB m c 2)) rfl) $$ [HK HA]
  · isplitl [HK] <;> iassumption
  iintro HK HA
  iapply (k_ld m c 7) $$ HK
  iintro HK
  iapply (v_ld m c 7) $$ HK
  iintro HK
  iapply (attn_ld m c 2 7 7) $$ HA
  iintro HA
  rw [show k0_pay26 (qB m c 2) (kV m c 7) (vV m c 7) = head m c 2 7 from rfl]
  iapply (wp_done c)
  iapply Hk $$ HK HA

theorem part18 (v7 : BitVec 32) {Q} :
    iprop(facts m K ∗ ow c j1 ∗ attnAt m c 2 7 ∗ at_ c woM (woS m c) ∗ free c (pSl 2) ∗ tr1 c 0)
      ⊢ iprop((ow c j1 -∗ attnAt m c 1 0 -∗ at_ c woM (woS m c) -∗ at_ c (pSl 2) (part m c 2) -∗ tr3 c 0 -∗ at_ c (pSl 3) (part m c 3)
          -∗ at_ c (rSl 0) (unsq (R0 m c)) -∗ Q (k0_pay28 (unsq (R0 m c))))
        -∗ wpp c (onArgs (k0_part18 (F := F)) v7 (head m c 2 7)) Q) := by
  unfold onArgs
  rw [k0_part18_eq_skeleton]
  unfold k0_part18_skel
  simp only [Prog.lift, Prog.bind_op, Prog.bind_ret, Prog.pure_eq_ret, Prog.bind_assoc]
  iintro ⟨#HF, HO, HA, HW, HP, HT⟩ Hk
  iapply (attn_st m c 2 7 7 rfl rfl) $$ HA
  iintro HA
  iapply (wp_proj m c 2 1 k0_pay27 rfl) $$ [HA HW HP]
  · isplitl [HA]; · iexact HA
    isplitl [HW]; · iexact HW
    iexact HP
  iintro HA HW HP
  iapply (wp_xs m K c 0 j1 rfl (show (sqRow (pSl 3)).view.dmaCredit = amtX 0 from rfl)) $$ [HO HT]
  · isplitr; · iexact HF
    isplitl [HO] <;> iassumption
  rw [show sndPay m c 0 = at_ c (sqRow (pSl 3)) (sq (part m c 3)) from rfl]
  iintro HO HT HS
  iapply (wp_xr m K c 0 j1 (by decide) rfl (show (sqRow (rSl 0)).view.dmaCredit = amtX 0 from rfl)) $$ [HO HT]
  · isplitr; · iexact HF
    isplitl [HO] <;> iassumption
  rw [show rcvPay m c 0 = at_ c (sqRow (rSl 0)) (R0 m c) from rfl]
  iintro HO HT HR
  ihave HR' := (row_unsq c (R0 m c)) $$ HR
  iapply (r_ld c 0) $$ HR'
  iintro HR
  iapply (wp_done c)
  iapply Hk $$ HO HA HW HP HT [HS] HR
  iapply (row_back c); iexact HS

/-! ## The third block -/

theorem part19 (v2 v7 : BitVec 32) {Q} :
    iprop(facts m K ∗ ow c j1 ∗ tr0 c 1 ∗ at_ c (pSl 2) (part m c 2) ∗ free c (sSl 0) ∗ free (nxt c) (sqRow (rSl 1)) ∗ at_ c xM (xS m c) ∗ at_ c wqM (wqS m c)
        ∗ kvAll m c)
      ⊢ iprop((ow c j2 -∗ tr1 c 1 -∗ at_ c (pSl 2) (part m c 2) -∗ at_ c xM (xS m c) -∗ at_ c wqM (wqS m c) -∗ kvAll m c
          -∗ Q ⟨qB m c 1, k0_pay31 (xRow m c 1) (wqS m c) (kV m c 0)⟩)
        -∗ wpp c (onArgs (k0_part19 (F := F)) c v2 v7 (k0_pay28 (unsq (R0 m c)))) Q) := by
  unfold onArgs
  rw [k0_part19_eq_skeleton]
  unfold k0_part19_skel
  simp only [Prog.lift, Prog.bind_op, Prog.bind_ret, Prog.pure_eq_ret, Prog.bind_assoc]
  iintro ⟨#HF, HO, HT, HP, ⟨%Y, HS⟩, HR, HX, HW, HK⟩ Hk
  iapply (p_ld c 2) $$ HP
  iintro HP
  iapply (s_ld c 0) $$ HS
  iintro HS
  iapply (s_st c 0) $$ HS
  rw [show k0_pay29 (k0_pay28 (unsq (R0 m c))) (part m c 2) = S0 m c from rfl]
  iintro HS
  ihave HS' := (row_sq c (S0 m c)) $$ HS
  iapply (wp_xf m K c 1 (⟨k0_dev4 c, k0_dev4_lt c⟩ : Dev nD) (dev4_eq c) fullShare (sq (S0 m c)) rfl (rcv1 m c) rfl j2 rfl rfl) $$ [HO HT HS' HR]
  · isplitr; · iexact HF
    isplitl [HS']; · iexact HS'
    isplitl [HR]; · iexact HR
    isplitl [HO] <;> iassumption
  iintro HO HT
  iapply (x_ld m c 1 rfl) $$ HX
  iintro HX
  iapply (ld_full c) $$ HW
  iintro HW
  iapply (k_ld m c 0) $$ HK
  iintro HK
  rw [show k0_pay30 (xRow m c 1) (wqS m c) = qB m c 1 from rfl]
  iapply (wp_done c)
  iapply Hk $$ HO HT HP HX HW HK

theorem part20 {Q} :
    iprop(kvAll m c ∗ attnAt m c 1 0)
      ⊢ iprop((kvAll m c -∗ attnAt m c 1 2 -∗ Q ⟨k0_pay34 (qB m c 1) (kV m c 2), k0_pay35 (qB m c 1) (kV m c 2)⟩)
        -∗ wpp c (onArgs (k0_part20 (F := F)) (qB m c 1) (k0_pay31 (xRow m c 1) (wqS m c) (kV m c 0))) Q) := by
  unfold onArgs
  rw [k0_part20_eq_skeleton]
  unfold k0_part20_skel
  simp only [Prog.lift, Prog.bind_op, Prog.bind_ret, Prog.pure_eq_ret, Prog.bind_assoc]
  iintro ⟨HK, HA⟩ Hk
  iapply (v_ld m c 0) $$ HK
  iintro HK
  iapply (attn_ld m c 1 0 0) $$ HA
  iintro HA
  iapply (attn_st m c 1 0 0 rfl rfl) $$ HA
  iintro HA
  iapply (wp_head m c 1 1 1 rfl (k0_pay33 (qB m c 1)) rfl) $$ [HK HA]
  · isplitl [HK] <;> iassumption
  iintro HK HA
  iapply (k_ld m c 2) $$ HK
  iintro HK
  iapply (wp_done c)
  iapply Hk $$ HK HA

theorem part21 {Q} :
    iprop(kvAll m c ∗ attnAt m c 1 2)
      ⊢ iprop((kvAll m c -∗ attnAt m c 1 4 -∗ Q (k0_pay38 (qB m c 1) (kV m c 4) (vV m c 4)))
        -∗ wpp c (onArgs (k0_part21 (F := F)) (qB m c 1) (k0_pay34 (qB m c 1) (kV m c 2)) (k0_pay35 (qB m c 1) (kV m c 2))) Q) := by
  unfold onArgs
  rw [k0_part21_eq_skeleton]
  unfold k0_part21_skel
  simp only [Prog.lift, Prog.bind_op, Prog.bind_ret, Prog.pure_eq_ret, Prog.bind_assoc]
  iintro ⟨HK, HA⟩ Hk
  iapply (v_ld m c 2) $$ HK
  iintro HK
  iapply (attn_ld m c 1 2 2) $$ HA
  iintro HA
  iapply (attn_st m c 1 2 2 rfl rfl) $$ HA
  iintro HA
  iapply (wp_head m c 1 3 3 rfl (k0_pay37 (qB m c 1)) rfl) $$ [HK HA]
  · isplitl [HK] <;> iassumption
  iintro HK HA
  iapply (k_ld m c 4) $$ HK
  iintro HK
  iapply (v_ld m c 4) $$ HK
  iintro HK
  iapply (wp_done c)
  iapply Hk $$ HK HA

theorem part22 {Q} :
    iprop(kvAll m c ∗ attnAt m c 1 4)
      ⊢ iprop((kvAll m c -∗ attnAt m c 1 7 -∗ Q ⟨⟩)
        -∗ wpp c (onArgs (k0_part22 (F := F)) (qB m c 1) (k0_pay38 (qB m c 1) (kV m c 4) (vV m c 4))) Q) := by
  unfold onArgs
  rw [k0_part22_eq_skeleton]
  unfold k0_part22_skel
  simp only [Prog.lift, Prog.bind_op, Prog.bind_ret, Prog.pure_eq_ret, Prog.bind_assoc]
  iintro ⟨HK, HA⟩ Hk
  iapply (attn_ld m c 1 4 4) $$ HA
  iintro HA
  iapply (attn_st m c 1 4 4 rfl rfl) $$ HA
  iintro HA
  iapply (wp_head m c 1 5 5 rfl (k0_pay40 (qB m c 1)) rfl) $$ [HK HA]
  · isplitl [HK] <;> iassumption
  iintro HK HA
  iapply (wp_head m c 1 6 6 rfl (k0_pay41 (qB m c 1)) rfl) $$ [HK HA]
  · isplitl [HK] <;> iassumption
  iintro HK HA
  iapply (wp_done c)
  iapply Hk $$ HK HA

theorem part23 {Q} :
    iprop(facts m K ∗ ow c j2 ∗ kvAll m c ∗ attnAt m c 1 7 ∗ at_ c woM (woS m c) ∗ free c (pSl 1) ∗ tr1 c 1)
      ⊢ iprop((ow c j2 -∗ kvAll m c -∗ attnAt m c 0 0 -∗ at_ c woM (woS m c) -∗ at_ c (pSl 1) (part m c 1) -∗ tr2 c 1 -∗ at_ c (sSl 0) (S0 m c) -∗ Q ⟨⟩)
        -∗ wpp c (onArgs (k0_part23 (F := F)) (qB m c 1)) Q) := by
  unfold onArgs
  rw [k0_part23_eq_skeleton]
  unfold k0_part23_skel
  simp only [Prog.lift, Prog.bind_op, Prog.bind_ret, Prog.pure_eq_ret, Prog.bind_assoc]
  iintro ⟨#HF, HO, HK, HA, HW, HP, HT⟩ Hk
  iapply (wp_head m c 1 7 7 rfl (k0_pay42 (qB m c 1)) rfl) $$ [HK HA]
  · isplitl [HK] <;> iassumption
  iintro HK HA
  iapply (wp_proj m c 1 0 k0_pay43 rfl) $$ [HA HW HP]
  · isplitl [HA]; · iexact HA
    isplitl [HW]; · iexact HW
    iexact HP
  iintro HA HW HP
  iapply (wp_xs m K c 1 j2 rfl (show (sqRow (sSl 0)).view.dmaCredit = amtX 1 from rfl)) $$ [HO HT]
  · isplitr; · iexact HF
    isplitl [HO] <;> iassumption
  rw [show sndPay m c 1 = at_ c (sqRow (sSl 0)) (sq (S0 m c)) from rfl]
  iintro HO HT HS
  iapply (wp_done c)
  iapply Hk $$ HO HK HA HW HP HT [HS]
  iapply (row_back c); iexact HS

/-! ## The fourth block -/

theorem part24 (v2 v7 : BitVec 32) {Q} :
    iprop(facts m K ∗ ow c j2 ∗ tr2 c 1 ∗ tr0 c 2 ∗ at_ c (pSl 1) (part m c 1) ∗ free c (sSl 1) ∗ free (nxt c) (sqRow (rSl 2)))
      ⊢ iprop((ow c j3 -∗ tr3 c 1 -∗ tr1 c 2 -∗ at_ c (pSl 1) (part m c 1) -∗ at_ c (rSl 1) (unsq (R1 m c)) -∗ ∀ a b, Q ⟨a, b⟩)
        -∗ wpp c (onArgs (k0_part24 (F := F)) c v2 v7) Q) := by
  unfold onArgs
  rw [k0_part24_eq_skeleton]
  unfold k0_part24_skel
  simp only [Prog.lift, Prog.bind_op, Prog.bind_ret, Prog.pure_eq_ret, Prog.bind_assoc]
  iintro ⟨#HF, HO, HT, HT', HP, ⟨%Y, HS⟩, HR'⟩ Hk
  iapply (wp_xr m K c 1 j2 (by decide) rfl (show (sqRow (rSl 1)).view.dmaCredit = amtX 1 from rfl)) $$ [HO HT]
  · isplitr; · iexact HF
    isplitl [HO] <;> iassumption
  rw [show rcvPay m c 1 = at_ c (sqRow (rSl 1)) (R1 m c) from rfl]
  iintro HO HT HR
  ihave HR1 := (row_unsq c (R1 m c)) $$ HR
  iapply (r_ld c 1) $$ HR1
  iintro HR
  iapply (p_ld c 1) $$ HP
  iintro HP
  iapply (s_ld c 1) $$ HS
  iintro HS
  iapply (s_st c 1) $$ HS
  rw [show k0_pay44 (unsq (R1 m c)) (part m c 1) = S1 m c from rfl]
  iintro HS
  ihave HS' := (row_sq c (S1 m c)) $$ HS
  iapply (wp_xf m K c 2 (⟨k0_dev5 c, k0_dev5_lt c⟩ : Dev nD) (dev5_eq c) fullShare (sq (S1 m c)) rfl (rcv2 m c) rfl j3 rfl rfl) $$ [HO HT' HS' HR']
  · isplitr; · iexact HF
    isplitl [HS']; · iexact HS'
    isplitl [HR']; · iexact HR'
    isplitl [HO] <;> iassumption
  iintro HO HT'
  iapply (wp_done c)
  iapply Hk $$ HO HT HT' HP HR

theorem part25 (a b : BitVec 32) {Q} :
    iprop(at_ c xM (xS m c) ∗ at_ c wqM (wqS m c) ∗ kvAll m c ∗ attnAt m c 0 0)
      ⊢ iprop((at_ c xM (xS m c) -∗ at_ c wqM (wqS m c) -∗ kvAll m c -∗ attnAt m c 0 1
          -∗ Q ⟨qB m c 0, k0_pay47 (xRow m c 0) (wqS m c) (kV m c 1), k0_pay48 (xRow m c 0) (wqS m c) (kV m c 1), vV m c 1⟩)
        -∗ wpp c (onArgs (k0_part25 (F := F)) c a b) Q) := by
  unfold onArgs
  rw [k0_part25_eq_skeleton]
  unfold k0_part25_skel
  simp only [Prog.lift, Prog.bind_op, Prog.bind_ret, Prog.pure_eq_ret, Prog.bind_assoc]
  iintro ⟨HX, HW, HK, HA⟩ Hk
  iapply (x_ld m c 0 rfl) $$ HX
  iintro HX
  iapply (ld_full c) $$ HW
  iintro HW
  iapply (wp_head m c 0 0 0 rfl (k0_pay46 (xRow m c 0) (wqS m c)) rfl) $$ [HK HA]
  · isplitl [HK] <;> iassumption
  iintro HK HA
  iapply (k_ld m c 1) $$ HK
  iintro HK
  iapply (v_ld m c 1) $$ HK
  iintro HK
  rw [show k0_pay45 (xRow m c 0) (wqS m c) = qB m c 0 from rfl]
  iapply (wp_done c)
  iapply Hk $$ HX HW HK HA

theorem part26 {Q} :
    iprop(kvAll m c ∗ attnAt m c 0 1)
      ⊢ iprop((kvAll m c -∗ attnAt m c 0 3 -∗ Q (k0_pay51 (qB m c 0) (kV m c 3) (vV m c 3)))
        -∗ wpp c (onArgs (k0_part26 (F := F)) (qB m c 0) (k0_pay47 (xRow m c 0) (wqS m c) (kV m c 1)) (k0_pay48 (xRow m c 0) (wqS m c) (kV m c 1)) (vV m c 1)) Q) := by
  unfold onArgs
  rw [k0_part26_eq_skeleton]
  unfold k0_part26_skel
  simp only [Prog.lift, Prog.bind_op, Prog.bind_ret, Prog.pure_eq_ret, Prog.bind_assoc]
  iintro ⟨HK, HA⟩ Hk
  iapply (attn_ld m c 0 1 1) $$ HA
  iintro HA
  iapply (attn_st m c 0 1 1 rfl rfl) $$ HA
  iintro HA
  iapply (wp_head m c 0 2 2 rfl (k0_pay50 (qB m c 0)) rfl) $$ [HK HA]
  · isplitl [HK] <;> iassumption
  iintro HK HA
  iapply (k_ld m c 3) $$ HK
  iintro HK
  iapply (v_ld m c 3) $$ HK
  iintro HK
  iapply (wp_done c)
  iapply Hk $$ HK HA

theorem part27 {Q} :
    iprop(kvAll m c ∗ attnAt m c 0 3)
      ⊢ iprop((kvAll m c -∗ attnAt m c 0 6 -∗ Q (k0_pay55 (qB m c 0)))
        -∗ wpp c (onArgs (k0_part27 (F := F)) (qB m c 0) (k0_pay51 (qB m c 0) (kV m c 3) (vV m c 3))) Q) := by
  unfold onArgs
  rw [k0_part27_eq_skeleton]
  unfold k0_part27_skel
  simp only [Prog.lift, Prog.bind_op, Prog.bind_ret, Prog.pure_eq_ret, Prog.bind_assoc]
  iintro ⟨HK, HA⟩ Hk
  iapply (attn_ld m c 0 3 3) $$ HA
  iintro HA
  iapply (attn_st m c 0 3 3 rfl rfl) $$ HA
  iintro HA
  iapply (wp_head m c 0 4 4 rfl (k0_pay53 (qB m c 0)) rfl) $$ [HK HA]
  · isplitl [HK] <;> iassumption
  iintro HK HA
  iapply (wp_head m c 0 5 5 rfl (k0_pay54 (qB m c 0)) rfl) $$ [HK HA]
  · isplitl [HK] <;> iassumption
  iintro HK HA
  iapply (wp_done c)
  iapply Hk $$ HK HA

theorem part28 {Q} :
    iprop(kvAll m c ∗ attnAt m c 0 6 ∗ at_ c woM (woS m c))
      ⊢ iprop((kvAll m c -∗ at_ c attnM (attn m c 0) -∗ at_ c woM (woS m c) -∗ Q ⟨attn m c 0, k0_pay58 (woS m c)⟩)
        -∗ wpp c (onArgs (k0_part28 (F := F)) (qB m c 0) (k0_pay55 (qB m c 0))) Q) := by
  unfold onArgs
  rw [k0_part28_eq_skeleton]
  unfold k0_part28_skel
  simp only [Prog.lift, Prog.bind_op, Prog.bind_ret, Prog.pure_eq_ret, Prog.bind_assoc]
  iintro ⟨HK, HA, HW⟩ Hk
  iapply (wp_head m c 0 6 6 rfl (k0_pay56 (k0_pay55 (qB m c 0))) rfl) $$ [HK HA]
  · isplitl [HK] <;> iassumption
  iintro HK HA
  iapply (wp_head m c 0 7 7 rfl (k0_pay57 (qB m c 0)) rfl) $$ [HK HA]
  · isplitl [HK] <;> iassumption
  iintro HK HA
  ihave HA' := (attnAt_full m c 0) $$ HA
  iapply (ld_full c) $$ HA'
  iintro HA
  iapply (ld_full c) $$ HW
  iintro HW
  iapply (wp_done c)
  iapply Hk $$ HK HA HW

theorem part29 (v7 : BitVec 32) {Q} :
    iprop(facts m K ∗ ow c j3 ∗ free c (pSl 0) ∗ tr1 c 2 ∗ free c finM)
      ⊢ iprop((ow c j3 -∗ at_ c (pSl 0) (part m c 0) -∗ tr3 c 2 -∗ at_ c (sSl 1) (S1 m c) -∗ at_ c (rSl 2) (unsq (R2 m c)) -∗ free c finM -∗ Q (fin m c))
        -∗ wpp c (onArgs (k0_part29 (F := F)) v7 (attn m c 0) (k0_pay58 (woS m c))) Q) := by
  unfold onArgs
  rw [k0_part29_eq_skeleton]
  unfold k0_part29_skel
  simp only [Prog.lift, Prog.bind_op, Prog.bind_ret, Prog.pure_eq_ret, Prog.bind_assoc]
  iintro ⟨#HF, HO, ⟨%Y, HP⟩, HT, ⟨%Z, HN⟩⟩ Hk
  iapply (p_ld c 0) $$ HP
  iintro HP
  iapply (p_st c 0) $$ HP
  rw [show k0_pay59 (attn m c 0) (k0_pay58 (woS m c)) = part m c 0 from rfl]
  iintro HP
  iapply (wp_xs m K c 2 j3 rfl (show (sqRow (sSl 1)).view.dmaCredit = amtX 2 from rfl)) $$ [HO HT]
  · isplitr; · iexact HF
    isplitl [HO] <;> iassumption
  rw [show sndPay m c 2 = at_ c (sqRow (sSl 1)) (sq (S1 m c)) from rfl]
  iintro HO HT HS
  iapply (wp_xr m K c 2 j3 (by decide) rfl (show (sqRow (rSl 2)).view.dmaCredit = amtX 2 from rfl)) $$ [HO HT]
  · isplitr; · iexact HF
    isplitl [HO] <;> iassumption
  rw [show rcvPay m c 2 = at_ c (sqRow (rSl 2)) (R2 m c) from rfl]
  iintro HO HT HR
  ihave HR' := (row_unsq c (R2 m c)) $$ HR
  iapply (r_ld c 2) $$ HR'
  iintro HR
  iapply (p_ld c 0) $$ HP
  iintro HP
  iapply (ld_full c) $$ HN
  iintro HN
  rw [show k0_pay60 (unsq (R2 m c)) (part m c 0) = fin m c from rfl]
  iapply (wp_done c)
  iapply Hk $$ HO HP HT [HS] HR [HN]
  · iapply (row_back c); iexact HS
  · iexists Z; iexact HN

/-! ## The gathering -/

theorem part30 (v2 v5 v7 : BitVec 32) {Q} :
    iprop(facts m K ∗ ow c j3 ∗ free c finM ∗ outAt m c [] ∗ tr0 c 3 ∗ tr0 c 4 ∗ free (nxt c) aglM ∗ free (prv c) agrM)
      ⊢ iprop((ow c j5 -∗ outAt m c [c] -∗ tr3 c 3 -∗ tr2 c 4 -∗ at_ c finM (fin m c) -∗ at_ c aglM (fin m (prv c)) -∗ ∀ w, Q w)
        -∗ wpp c (onArgs (k0_part30 (F := F)) c v2 v5 v7 (fin m c)) Q) := by
  unfold onArgs
  rw [k0_part30_eq_skeleton]
  unfold k0_part30_skel
  simp only [Prog.lift, Prog.bind_op, Prog.bind_ret, Prog.pure_eq_ret, Prog.bind_assoc]
  iintro ⟨#HF, HO, ⟨%Y, HN⟩, HU, HT, HT', HL, HR⟩ Hk
  iapply (st_full c) $$ HN
  iintro HN
  iapply (ld_full c) $$ HN
  iintro HN
  iapply (out_ld m c []) $$ HU
  iintro HU
  iapply (out_st m c [] c (k0_off2_eq c) rfl) $$ HU
  iintro HU
  ihave HN' := (owns_halves (c : Thread nD τ) finM fullShare (fin m c)).1 $$ HN
  icases HN' with ⟨HN1, HN2⟩
  iapply (wp_xf m K c 3 (⟨k0_dev6 c, k0_dev6_lt c⟩ : Dev nD) (dev6_eq c) fullShare.left (fin m c) rfl (rcv3 m c) rfl j4 rfl rfl) $$ [HO HT HN1 HL]
  · isplitr; · iexact HF
    isplitl [HN1]; · iexact HN1
    isplitl [HL]; · iexact HL
    isplitl [HO] <;> iassumption
  iintro HO HT
  iapply (wp_xf m K c 4 (⟨k0_dev7 c, k0_dev7_lt c⟩ : Dev nD) (dev7_eq c) fullShare.right (fin m c) rfl (rcv4 m c) rfl j5 rfl rfl) $$ [HO HT' HN2 HR]
  · isplitr; · iexact HF
    isplitl [HN2]; · iexact HN2
    isplitl [HR]; · iexact HR
    isplitl [HO] <;> iassumption
  iintro HO HT'
  iapply (wp_xs m K c 3 j5 rfl (show (finM).view.dmaCredit = amtX 3 from rfl)) $$ [HO HT]
  · isplitr; · iexact HF
    isplitl [HO] <;> iassumption
  rw [show sndPay m c 3 = owns (c : Thread nD τ) finM fullShare.left (fin m c) from rfl]
  iintro HO HT HN1
  iapply (wp_xr m K c 3 j5 (by decide) rfl (show (aglM).view.dmaCredit = amtX 3 from rfl)) $$ [HO HT]
  · isplitr; · iexact HF
    isplitl [HO] <;> iassumption
  rw [show rcvPay m c 3 = at_ c aglM (fin m (prv c)) from rfl]
  iintro HO HT HL
  iapply (wp_xs m K c 4 j5 rfl (show (finM).view.dmaCredit = amtX 4 from rfl)) $$ [HO HT']
  · isplitr; · iexact HF
    isplitl [HO] <;> iassumption
  rw [show sndPay m c 4 = owns (c : Thread nD τ) finM fullShare.right (fin m c) from rfl]
  iintro HO HT' HN2
  iapply (wp_done c)
  iapply Hk $$ HO HU HT HT' [HN1 HN2] HL
  iapply (owns_halves (c : Thread nD τ) finM fullShare (fin m c)).2
  isplitl [HN1] <;> iassumption

theorem part31 (v5 v7 w : BitVec 32) {Q} :
    iprop(facts m K ∗ ow c j5 ∗ outAt m c [c] ∗ tr2 c 4 ∗ tr0 c 5 ∗ at_ c aglM (fin m (prv c)) ∗ free (nxt c) (agdH 0))
      ⊢ iprop((ow c j6 -∗ outAt m c [nxt c, prv c, c] -∗ tr3 c 4 -∗ tr1 c 5 -∗ at_ c (aglH 1) (finH m (prv c) 1) -∗ at_ c agrM (fin m (nxt c)) -∗ Q ⟨⟩)
        -∗ wpp c (onArgs (k0_part31 (F := F)) c v5 v7 w) Q) := by
  unfold onArgs
  rw [k0_part31_eq_skeleton]
  unfold k0_part31_skel
  simp only [Prog.lift, Prog.bind_op, Prog.bind_ret, Prog.pure_eq_ret, Prog.bind_assoc]
  iintro ⟨#HF, HO, HU, HT, HT', HL, HD⟩ Hk
  iapply (wp_xr m K c 4 j5 (by decide) rfl (show (agrM).view.dmaCredit = amtX 4 from rfl)) $$ [HO HT]
  · isplitr; · iexact HF
    isplitl [HO] <;> iassumption
  rw [show rcvPay m c 4 = at_ c agrM (fin m (nxt c)) from rfl]
  iintro HO HT HR
  iapply (ld_full c) $$ HL
  iintro HL
  iapply (out_ld m c [c]) $$ HU
  iintro HU
  iapply (out_st m c [c] (prv c) (k0_off3_eq c) rfl) $$ HU
  iintro HU
  iapply (ld_full c) $$ HR
  iintro HR
  iapply (out_ld m c [prv c, c]) $$ HU
  iintro HU
  iapply (out_st m c [prv c, c] (nxt c) (k0_off1_eq c 1) rfl) $$ HU
  iintro HU
  ihave HL' := (halves_split c aglM (fin m (prv c))) $$ HL
  icases HL' with ⟨HL0, HL1⟩
  iapply (wp_xf m K c 5 (⟨k0_dev8 c, k0_dev8_lt c⟩ : Dev nD) (dev8_eq c) fullShare (finH m (prv c) 0) rfl (rcv5 m c) rfl j6 rfl rfl) $$ [HO HT' HL0 HD]
  · isplitr; · iexact HF
    isplitl [HL0]; · iexact HL0
    isplitl [HD]; · iexact HD
    isplitl [HO] <;> iassumption
  iintro HO HT'
  iapply (wp_done c)
  iapply Hk $$ HO HU HT HT' [HL1] HR
  iexact HL1

theorem part32 (v5 v7 : BitVec 32) {Q} :
    iprop(facts m K ∗ ow c j6 ∗ tr1 c 5 ∗ tr0 c 6 ∗ at_ c agrM (fin m (nxt c)) ∗ free (prv c) (agdH 1))
      ⊢ iprop((ow c j7 -∗ tr3 c 5 -∗ tr3 c 6 -∗ at_ c (aglH 0) (finH m (prv c) 0) -∗ at_ c agrM (fin m (nxt c)) -∗ at_ c agdM (fin m (prv (prv c)))
          -∗ Q (fin m (prv (prv c))))
        -∗ wpp c (onArgs (k0_part32 (F := F)) c v5 v7) Q) := by
  unfold onArgs
  rw [k0_part32_eq_skeleton]
  unfold k0_part32_skel
  simp only [Prog.lift, Prog.bind_op, Prog.bind_ret, Prog.pure_eq_ret, Prog.bind_assoc]
  iintro ⟨#HF, HO, HT, HT', HR, HD⟩ Hk
  ihave HR' := (halves_split c agrM (fin m (nxt c))) $$ HR
  icases HR' with ⟨HR0, HR1⟩
  iapply (wp_xf m K c 6 (⟨k0_dev9 c, k0_dev9_lt c⟩ : Dev nD) (dev9_eq c) fullShare (finH m (nxt c) 1) rfl (rcv6 m c) rfl j7 rfl rfl) $$ [HO HT' HR1 HD]
  · isplitr; · iexact HF
    isplitl [HR1]; · iexact HR1
    isplitl [HD]; · iexact HD
    isplitl [HO] <;> iassumption
  iintro HO HT'
  iapply (wp_xs m K c 5 j7 rfl (show (aglH 0).view.dmaCredit = amtX 5 from rfl)) $$ [HO HT]
  · isplitr; · iexact HF
    isplitl [HO] <;> iassumption
  rw [show sndPay m c 5 = at_ c (aglH 0) (finH m (prv c) 0) from rfl]
  iintro HO HT HL0
  iapply (wp_xr m K c 5 j7 (by decide) rfl (show (agdH 0).view.dmaCredit = amtX 5 from rfl)) $$ [HO HT]
  · isplitr; · iexact HF
    isplitl [HO] <;> iassumption
  rw [show rcvPay m c 5 = at_ c (agdH 0) (finH m (prv (prv c)) 0) from rfl]
  iintro HO HT HD0
  iapply (wp_xs m K c 6 j7 rfl (show (agrH 1).view.dmaCredit = amtX 6 from rfl)) $$ [HO HT']
  · isplitr; · iexact HF
    isplitl [HO] <;> iassumption
  rw [show sndPay m c 6 = at_ c (agrH 1) (finH m (nxt c) 1) from rfl]
  iintro HO HT' HR1
  iapply (wp_xr m K c 6 j7 (by decide) rfl (show (agdH 1).view.dmaCredit = amtX 6 from rfl)) $$ [HO HT']
  · isplitr; · iexact HF
    isplitl [HO] <;> iassumption
  rw [show rcvPay m c 6 = at_ c (agdH 1) (finH m (nxt (nxt c)) 1) from rfl, nxt_nxt]
  iintro HO HT' HD1
  ihave HD' := (halves_join c agdM (fin m (prv (prv c)))) $$ [HD0 HD1]
  · isplitl [HD0]; · iexact HD0
    iexact HD1
  iapply (ld_full c) $$ HD'
  iintro HD
  iapply (wp_done c)
  iapply Hk $$ HO HT HT' HL0 [HR0 HR1] HD
  iapply (halves_join c agrM (fin m (nxt c)))
  isplitl [HR0]; · iexact HR0
  iexact HR1

end Cert.Attn

end
-- ==== Proof.Body.lean ====
/-
The whole body on a device: the buffers taken apart into the slices its operations name, its parts in order, and the buffers put
back together.
-/
module

public import proofs.«01_k».proof.Proof.Parts

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## The buffers in slices -/

theorem to_free {sp : Space} {s : Shape} (M : Memref sig .tc sp s .f32) (X : Vec F s .f32) : (at_ c M X : sProp 𝕄) ⊢ free c M := by
  iintro H; iexists X; iexact H

section Slices

variable {sp : Space} {s : Shape} {n : ℕ} (M : Memref sig .tc sp s .f32) (r : Fin n → Rect s) (hr : ∀ t a, (r t).stride a = 1)
  (hd : ∀ t t', t ≠ t' → Disjoint (r t).set (r t').set) (hc : (Finset.univ : Finset (Fin n)).biUnion (fun t => (r t).set) = Finset.univ)

include hd hc

theorem free_split : (free c M : sProp 𝕄) ⊢ bigSep Finset.univ fun t => free c (M.slice (r t) (hr t)) := by
  iintro ⟨%X, H⟩
  have h2 : (bigSep Finset.univ fun t => owns (c : Thread nD τ) (M.slice (r t) (hr t)) fullShare (fun j => X ((r t).emb j)) : sProp 𝕄)
      ⊢ bigSep Finset.univ fun t => free c (M.slice (r t) (hr t)) := bigSep_mono fun t _ => to_free c _ _
  have h := (owns_rects (Ix := Unit) (Name := ℕ) (U := UU) (Lvl := ℕ) (c : Thread nD τ) M fullShare r hr hd hc X).trans h2
  iapply h; iexact H
theorem free_join : (bigSep Finset.univ fun t => free c (M.slice (r t) (hr t)) : sProp 𝕄) ⊢ free c M :=
  Own.owns_glue (c : Thread nD τ) M fullShare r hr hd hc

end Slices

omit [FloatOps F] in
theorem sep2 (Φ : Fin 2 → sProp 𝕄) : bigSep Finset.univ Φ = iprop(Φ 0 ∗ Φ 1) := bigSep_univ_eq_bigSepL [0, 1] (by decide) (by decide) Φ
omit [FloatOps F] in
theorem sep3 (Φ : Fin 3 → sProp 𝕄) : bigSep Finset.univ Φ = iprop(Φ 0 ∗ Φ 1 ∗ Φ 2) := bigSep_univ_eq_bigSepL [0, 1, 2] (by decide) (by decide) Φ
omit [FloatOps F] in
theorem sep4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem slot_disjoint : ∀ t t' : Fin 8, t ≠ t' → Disjoint (slotRect t).set (slotRect t').set :=
  Own.axis_disjoint (sh := S8x2048x128) 0 1 (fun t : Fin 8 => ![t.val, 0, 0]) S1x2048x128.size inbSlot (by decide) rfl
theorem slot_cover : (Finset.univ : Finset (Fin 8)).biUnion (fun t => (slotRect t).set) = Finset.univ :=
  Own.axis_cover (sh := S8x2048x128) 0 1 (by decide) (fun t : Fin 8 => ![t.val, 0, 0]) S1x2048x128.size inbSlot (by decide) rfl rfl (by decide)
theorem src_disjoint : ∀ t t' : Fin 8, t ≠ t' → Disjoint (srcRect t).set (srcRect t').set :=
  Own.axis_disjoint (sh := S1x2048x8x128) 2 1 (fun t : Fin 8 => ![0, 0, t.val, 0]) S1x2048x1x128.size inbSrc (by decide) rfl
theorem src_cover : (Finset.univ : Finset (Fin 8)).biUnion (fun t => (srcRect t).set) = Finset.univ :=
  Own.axis_cover (sh := S1x2048x8x128) 2 1 (by decide) (fun t : Fin 8 => ![0, 0, t.val, 0]) S1x2048x1x128.size inbSrc (by decide) rfl rfl (by decide)
theorem p_disjoint : ∀ t t' : Fin 4, t ≠ t' → Disjoint (pRect t).set (pRect t').set :=
  Own.axis_disjoint (sh := S4x128x1024) 0 1 (fun t : Fin 4 => ![t.val, 0, 0]) S1x128x1024.size inbP (by decide) rfl
theorem p_cover : (Finset.univ : Finset (Fin 4)).biUnion (fun t => (pRect t).set) = Finset.univ :=
  Own.axis_cover (sh := S4x128x1024) 0 1 (by decide) (fun t : Fin 4 => ![t.val, 0, 0]) S1x128x1024.size inbP (by decide) rfl rfl (by decide)
theorem s_disjoint : ∀ t t' : Fin 2, t ≠ t' → Disjoint (sRect t).set (sRect t').set :=
  Own.axis_disjoint (sh := S2x128x1024) 0 1 (fun t : Fin 2 => ![t.val, 0, 0]) S1x128x1024.size inbS (by decide) rfl
theorem s_cover : (Finset.univ : Finset (Fin 2)).biUnion (fun t => (sRect t).set) = Finset.univ :=
  Own.axis_cover (sh := S2x128x1024) 0 1 (by decide) (fun t : Fin 2 => ![t.val, 0, 0]) S1x128x1024.size inbS (by decide) rfl rfl (by decide)
theorem r_disjoint : ∀ t t' : Fin 3, t ≠ t' → Disjoint (rRect t).set (rRect t').set :=
  Own.axis_disjoint (sh := S3x128x1024) 0 1 (fun t : Fin 3 => ![t.val, 0, 0]) S1x128x1024.size inbR (by decide) rfl
theorem r_cover : (Finset.univ : Finset (Fin 3)).biUnion (fun t => (rRect t).set) = Finset.univ :=
  Own.axis_cover (sh := S3x128x1024) 0 1 (by decide) (fun t : Fin 3 => ![t.val, 0, 0]) S1x128x1024.size inbR (by decide) rfl rfl (by decide)

theorem slot_sq (M : Memref sig .tc .vmem S1x2048x128 .f32) : (free c M : sProp 𝕄) ⊢ free c (sqSlot M) := by
  iintro ⟨%X, H⟩; iexists _
  iapply (Own.owns_squeeze (c : Thread nD τ) M S2048x128 squeezes_S1x2048x128_S2048x128 fullShare X); iexact H

/-- The staged keys' and values' slots, as the copies name them. -/
theorem slots_split (M : Memref sig .tc .vmem S8x2048x128 .f32) :
    (free c M : sProp 𝕄) ⊢ bigSep Finset.univ fun h : Fin 8 => free c (sqSlot (M.slice (slotRect h) (fun _ => rfl))) :=
  (free_split c M slotRect (fun _ _ => rfl) slot_disjoint slot_cover).trans (bigSep_mono fun h _ => slot_sq c _)

/-- An array of keys or values, head by head. -/
theorem srcs_eq (M : Memref sig .tc .hbm S1x2048x8x128 .f32) (X : Vec F S1x2048x8x128 .f32) :
    (at_ c M X : sProp 𝕄) ⊢ bigSep Finset.univ fun h : Fin 8 => at_ c (sqSrc (M.slice (srcRect h) (fun _ => rfl)))
      (fun i => X ((srcRect h).emb (Shape.reshapeEquiv squeezes_S1x2048x1x128_S2048x128.numel_eq i))) :=
  (owns_rects (c : Thread nD τ) M fullShare srcRect (fun _ _ => rfl) src_disjoint src_cover X).trans (bigSep_mono fun h _ =>
    Own.owns_squeeze (c : Thread nD τ) (M.slice (srcRect h) (fun _ => rfl)) S2048x128 squeezes_S1x2048x1x128_S2048x128 fullShare (fun j => X ((srcRect h).emb j)))
theorem srcs_join (M : Memref sig .tc .hbm S1x2048x8x128 .f32) (X : Vec F S1x2048x8x128 .f32) :
    (bigSep Finset.univ fun h : Fin 8 => at_ c (sqSrc (M.slice (srcRect h) (fun _ => rfl)))
      (fun i => X ((srcRect h).emb (Shape.reshapeEquiv squeezes_S1x2048x1x128_S2048x128.numel_eq i))) : sProp 𝕄) ⊢ at_ c M X :=
  (bigSep_mono fun h _ => by
    have e := Own.owns_unsqueeze (Ix := Unit) (Name := ℕ) (U := UU) (Lvl := ℕ) (c : Thread nD τ) (M.slice (srcRect h) (fun _ => rfl)) S2048x128 squeezes_S1x2048x1x128_S2048x128 fullShare
      (fun i => X ((srcRect h).emb (Shape.reshapeEquiv squeezes_S1x2048x1x128_S2048x128.numel_eq i)))
    simp only [Equiv.apply_symm_apply] at e
    exact e).trans
    (owns_of_rects (c : Thread nD τ) M fullShare srcRect (fun _ _ => rfl) src_disjoint src_cover X)

/-! ## What the body starts from and ends with -/

def kbits (h : Fin 8) : sProp 𝕄 := iprop(dutyTok ER (kcell (c, kst h)) 0 false ∗ atPos ER (kcell (c, kst h)) 0 ∅ 0)
def vbits (h : Fin 8) : sProp 𝕄 := iprop(dutyTok ER (kcell (c, vst h)) 0 false ∗ atPos ER (kcell (c, vst h)) 0 ∅ 0)

/-- What a device holds of the exchange before it. -/
def bits : sProp 𝕄 :=
  iprop(dutyTok ER (kcell (prv c, bar)) 0 true ∗ dutyTok ER (kcell (nxt c, bar)) 0 false ∗ cred (tallyAt (kcell (c, bar)) () 2) ∗ atPos ER (kcell (c, bar)) 0 ∅ 0
    ∗ bigSep Finset.univ (kbits (F := F) c) ∗ bigSep Finset.univ (vbits (F := F) c) ∗ bigSep Finset.univ (tr0 (F := F) c))
/-- And after it: every counter at zero. -/
def zeros : sProp 𝕄 :=
  iprop(semVal (kcell (c, bar)) 0 ∗ (bigSep Finset.univ fun h : Fin 8 => semVal (kcell (c, kst h)) 0) ∗ (bigSep Finset.univ fun h : Fin 8 => semVal (kcell (c, vst h)) 0)
    ∗ bigSep Finset.univ (tr3 (F := F) c))
/-- The scratch buffers, whatever they hold. -/
def mems : sProp 𝕄 :=
  iprop(free (F := F) c attnM ∗ free (F := F) c pM ∗ free (F := F) c kvM ∗ free (F := F) c vvM ∗ free (F := F) c sM ∗ free (F := F) c rM ∗ free (F := F) c finM
    ∗ free (F := F) c aglM ∗ free (F := F) c agrM ∗ free (F := F) c agdM)
/-- The arrays of keys and values. -/
def arrs : sProp 𝕄 := iprop(at_ c kA (kW m c) ∗ at_ c vA (vW m c))
/-- The staged inputs. -/
def ins : sProp 𝕄 := iprop(at_ c xM (xS m c) ∗ at_ c wqM (wqS m c) ∗ at_ c woM (woS m c))

theorem ks_start : iprop(at_ c kA (kW m c) ∗ free c kvM ∗ bigSep Finset.univ (kbits (F := F) c)) ⊢ bigSep Finset.univ (ks0 m c) := by
  iintro ⟨HA, HV, HB⟩
  ihave HA' := (srcs_eq c kA (kW m c)) $$ HA
  ihave HV' := (slots_split c kvM) $$ HV
  rw [show ks0 m c = fun h => iprop(at_ c (sqSrc (kSrc h)) (kC m c h) ∗ free c (sqSlot (kSl h)) ∗ kbits c h) from funext fun h => rfl, bigSep_sep', bigSep_sep']
  isplitl [HA']; · iexact HA'
  isplitl [HV']; · iexact HV'
  iexact HB
theorem vs_start : iprop(at_ c vA (vW m c) ∗ free c vvM ∗ bigSep Finset.univ (vbits (F := F) c)) ⊢ bigSep Finset.univ (vs0 m c) := by
  iintro ⟨HA, HV, HB⟩
  ihave HA' := (srcs_eq c vA (vW m c)) $$ HA
  ihave HV' := (slots_split c vvM) $$ HV
  rw [show vs0 m c = fun h => iprop(at_ c (sqSrc (vSrc h)) (vC m c h) ∗ free c (sqSlot (vSl h)) ∗ vbits c h) from funext fun h => rfl, bigSep_sep', bigSep_sep']
  isplitl [HA']; · iexact HA'
  isplitl [HV']; · iexact HV'
  iexact HB
theorem ks_end : (bigSep Finset.univ (ks2 m c) : sProp 𝕄) ⊢ iprop(at_ c kA (kW m c) ∗ bigSep Finset.univ fun h : Fin 8 => semVal (kcell (c, kst h)) 0) := by
  rw [show ks2 m c = fun h => iprop(at_ c (sqSrc (kSrc h)) (kC m c h) ∗ semVal (kcell (c, kst h)) 0) from funext fun h => rfl, bigSep_sep']
  iintro ⟨HA, HB⟩
  isplitl [HA]
  · iapply (srcs_join c kA (kW m c)); iexact HA
  iexact HB
theorem vs_end : (bigSep Finset.univ (vs2 m c) : sProp 𝕄) ⊢ iprop(at_ c vA (vW m c) ∗ bigSep Finset.univ fun h : Fin 8 => semVal (kcell (c, vst h)) 0) := by
  rw [show vs2 m c = fun h => iprop(at_ c (sqSrc (vSrc h)) (vC m c h) ∗ semVal (kcell (c, vst h)) 0) from funext fun h => rfl, bigSep_sep']
  iintro ⟨HA, HB⟩
  isplitl [HA]
  · iapply (srcs_join c vA (vW m c)); iexact HA
  iexact HB

theorem kv_end : (kvAll m c : sProp 𝕄) ⊢ iprop(free c kvM ∗ free c vvM) := by
  unfold kvAll
  rw [show kvOne m c = fun h => iprop(at_ c (kSl h) (kV m c h) ∗ at_ c (vSl h) (vV m c h)) from funext fun h => rfl, bigSep_sep']
  exact BI.sep_mono
    ((bigSep_mono fun h _ => to_free c (kSl h) (kV m c h)).trans (free_join c kvM slotRect (fun _ _ => rfl) slot_disjoint slot_cover))
    ((bigSep_mono fun h _ => to_free c (vSl h) (vV m c h)).trans (free_join c vvM slotRect (fun _ _ => rfl) slot_disjoint slot_cover))

theorem p_start : (free c pM : sProp 𝕄) ⊢ iprop(free c (pSl 0) ∗ free c (pSl 1) ∗ free c (pSl 2) ∗ free c (pSl 3)) :=
  (free_split c pM pRect (fun _ _ => rfl) p_disjoint p_cover).trans (BIBase.Entails.of_eq (sep4 _))
theorem p_end : iprop(free c (pSl 0) ∗ free c (pSl 1) ∗ free c (pSl 2) ∗ free c (pSl 3)) ⊢ (free c pM : sProp 𝕄) :=
  (BIBase.Entails.of_eq (sep4 fun t => free c (pSl t)).symm).trans (free_join c pM pRect (fun _ _ => rfl) p_disjoint p_cover)
theorem s_start : (free c sM : sProp 𝕄) ⊢ iprop(free c (sSl 0) ∗ free c (sSl 1)) :=
  (free_split c sM sRect (fun _ _ => rfl) s_disjoint s_cover).trans (BIBase.Entails.of_eq (sep2 _))
theorem s_end : iprop(free c (sSl 0) ∗ free c (sSl 1)) ⊢ (free c sM : sProp 𝕄) :=
  (BIBase.Entails.of_eq (sep2 fun t => free c (sSl t)).symm).trans (free_join c sM sRect (fun _ _ => rfl) s_disjoint s_cover)
theorem row_free (M : Memref sig .tc .vmem S1x128x1024 .f32) : (free c M : sProp 𝕄) ⊢ free c (sqRow M) := by
  iintro ⟨%X, H⟩; iexists _
  iapply (row_sq c X); iexact H
theorem r_start : (free c rM : sProp 𝕄) ⊢ iprop(free c (sqRow (rSl 0)) ∗ free c (sqRow (rSl 1)) ∗ free c (sqRow (rSl 2))) :=
  (free_split c rM rRect (fun _ _ => rfl) r_disjoint r_cover).trans ((bigSep_mono fun t _ => row_free c (rSl t)).trans (BIBase.Entails.of_eq (sep3 _)))
theorem r_end : iprop(free c (rSl 0) ∗ free c (rSl 1) ∗ free c (rSl 2)) ⊢ (free c rM : sProp 𝕄) :=
  (BIBase.Entails.of_eq (sep3 fun t => free c (rSl t)).symm).trans (free_join c rM rRect (fun _ _ => rfl) r_disjoint r_cover)
theorem d_start : (free c agdM : sProp 𝕄) ⊢ iprop(free c (agdH 0) ∗ free c (agdH 1)) :=
  (free_split c agdM halfRect (fun _ _ => rfl) half_disjoint half_cover).trans (BIBase.Entails.of_eq (sep2 _))

theorem off_far : k0_off1 c 2#32 = ![0, 128 * (nxt (nxt c)).val, 0] := by
  rw [show k0_off1 c 2#32 = _ from k0_off1_eq c 2]; revert c; decide

theorem all_devices : ∀ b : Dev nD, b ∈ [nxt (nxt c), nxt c, prv c, c] := by revert c; decide

/-! ## The body -/

set_option maxHeartbeats 4000000 in
theorem body {Q} :
    iprop(facts m K ∗ ow c (.inl true :: .inl false :: j0) ∗ bits c ∗ arrs m c ∗ mems c ∗ ins m c ∗ free c outM)
      ⊢ iprop((ow c [] -∗ zeros c -∗ arrs m c -∗ mems c -∗ ins m c -∗ at_ c outM (outV m) -∗ Q ⟨⟩) -∗ wpp c (onArgs (cc0_body (F := F))) Q) := by
  unfold onArgs
  rw [cc0_body_eq_skeleton]
  unfold cc0_body_skel
  simp only [Prog.lift, Prog.bind_op, Prog.bind_ret, Prog.pure_eq_ret, wp_bind]
  unfold bits arrs mems ins
  iintro ⟨#HF, HO, ⟨Ht1, Ht2, Hc, Ha, HKB, HVB, HT⟩, ⟨HKA, HVA⟩, ⟨⟨%A0, Hattn⟩, Hp, Hkv, Hvv, Hs, Hr, Hfin, Hagl, Hagr, Hagd⟩, ⟨HX, HWq, HWo⟩, ⟨%U0, HU⟩⟩ Hk
  ihave HKS := (ks_start m c) $$ [HKA Hkv HKB]
  · isplitl [HKA]; · iexact HKA
    isplitl [Hkv]; · iexact Hkv
    iexact HKB
  ihave HVS := (vs_start m c) $$ [HVA Hvv HVB]
  · isplitl [HVA]; · iexact HVA
    isplitl [Hvv]; · iexact Hvv
    iexact HVB
  ihave HKS' := (BIBase.Entails.of_eq (sep8 _)) $$ HKS
  icases HKS' with ⟨K0, K1, K2, K3, K4, K5, K6, K7⟩
  ihave HVS' := (BIBase.Entails.of_eq (sep8 _)) $$ HVS
  icases HVS' with ⟨V0, V1, V2, V3, V4, V5, V6, V7⟩
  ihave HT' := (BIBase.Entails.of_eq (sep7 _)) $$ HT
  icases HT' with ⟨T0, T1, T2, T3, T4, T5, T6⟩
  ihave HA := (attnAt_start m c A0 3) $$ Hattn
  ihave HU := (out_start m c U0) $$ HU
  ihave Hp := (p_start c) $$ Hp
  icases Hp with ⟨P0, P1, P2, P3⟩
  ihave Hs := (s_start c) $$ Hs
  icases Hs with ⟨S0, S1⟩
  ihave Hr := (r_start c) $$ Hr
  icases Hr with ⟨R0, R1, R2⟩
  ihave Hagd := (d_start c) $$ Hagd
  icases Hagd with ⟨D0, D1⟩
  iapply (part1 m K c) $$ [HO Ht1 Ht2 R0 R1 R2 Hagl D0 Hagr D1 Hc Ha K0]
  · isplitr; · iexact HF
    isplitl [HO]; · iexact HO
    isplitl [Ht1]; · iexact Ht1
    isplitl [Ht2]; · iexact Ht2
    isplitl [R0 R1 R2 Hagl D0]
    · unfold handR
      isplitl [R0]; · iexact R0
      isplitl [R1]; · iexact R1
      isplitl [R2]; · iexact R2
      isplitl [Hagl]; · iexact Hagl
      iexact D0
    isplitl [Hagr D1]
    · unfold handL
      isplitl [Hagr]; · iexact Hagr
      iexact D1
    isplitl [Hc]; · iexact Hc
    isplitl [Ha]; · iexact Ha
    iexact K0
  iintro HO Hz HL HR K0 %v2 %v5 %v7
  unfold handL handR
  icases HL with ⟨Lagr, LD1⟩
  icases HR with ⟨RR0, RR1, RR2, Ragl, RD0⟩
  dsimp only
  iapply (part2 m K c) $$ [V0 K1 V1 K2]
  · isplitr; · iexact HF
    isplitl [V0]; · iexact V0
    isplitl [K1]; · iexact K1
    isplitl [V1] <;> iassumption
  iintro V0 K1 V1 K2
  iapply (part3 m K c) $$ [V2 K3 V3 K4]
  · isplitr; · iexact HF
    isplitl [V2]; · iexact V2
    isplitl [K3]; · iexact K3
    isplitl [V3] <;> iassumption
  iintro V2 K3 V3 K4
  iapply (part4 m K c) $$ [V4 K5 V5 K6]
  · isplitr; · iexact HF
    isplitl [V4]; · iexact V4
    isplitl [K5]; · iexact K5
    isplitl [V5] <;> iassumption
  iintro V4 K5 V5 K6
  iapply (part5 m K c v2) $$ [V6 K7 V7 HX HWq]
  · isplitr; · iexact HF
    isplitl [V6]; · iexact V6
    isplitl [K7]; · iexact K7
    isplitl [V7]; · iexact V7
    isplitl [HX] <;> iassumption
  iintro V6 K7 V7 HX HWq
  iapply (part6 m K c j0) $$ [HO K0 V0 HA]
  · isplitr; · iexact HF
    isplitl [HO]; · iexact HO
    isplitl [K0]; · iexact K0
    isplitl [V0] <;> iassumption
  iintro HO K0 V0 KV0 HA
  iapply (part7 m K c j0) $$ [HO K1 V1 HA]
  · isplitr; · iexact HF
    isplitl [HO]; · iexact HO
    isplitl [K1]; · iexact K1
    isplitl [V1] <;> iassumption
  iintro HO K1 V1 KV1 HA
  iapply (part8 m K c j0) $$ [HO K2 V2 HA K3]
  · isplitr; · iexact HF
    isplitl [HO]; · iexact HO
    isplitl [K2]; · iexact K2
    isplitl [V2]; · iexact V2
    isplitl [HA] <;> iassumption
  iintro HO K2 V2 KV2 HA K3 HK
  iapply (part9 m K c j0) $$ [HO HK V3 HA K4]
  · isplitr; · iexact HF
    isplitl [HO]; · iexact HO
    isplitl [HK]; · iexact HK
    isplitl [V3]; · iexact V3
    isplitl [HA] <;> iassumption
  iintro HO V3 KV3 HA K4 HK
  iapply (part10 m K c j0) $$ [HO HK V4 HA K5]
  · isplitr; · iexact HF
    isplitl [HO]; · iexact HO
    isplitl [HK]; · iexact HK
    isplitl [V4]; · iexact V4
    isplitl [HA] <;> iassumption
  iintro HO V4 KV4 HA K5 HK
  iapply (part11 m K c j0) $$ [HO HK V5 HA K6]
  · isplitr; · iexact HF
    isplitl [HO]; · iexact HO
    isplitl [HK]; · iexact HK
    isplitl [V5]; · iexact V5
    isplitl [HA] <;> iassumption
  iintro HO V5 KV5 HA K6 HK
  iapply (part12 m K c j0) $$ [HO HK V6 HA K7]
  · isplitr; · iexact HF
    isplitl [HO]; · iexact HO
    isplitl [HK]; · iexact HK
    isplitl [V6]; · iexact V6
    isplitl [HA] <;> iassumption
  iintro HO V6 KV6 HA K7 HK
  iapply (part13 m K c j0 v7) $$ [HO HK V7 HA HWo P3]
  · isplitr; · iexact HF
    isplitl [HO]; · iexact HO
    isplitl [HK]; · iexact HK
    isplitl [V7]; · iexact V7
    isplitl [HA]; · iexact HA
    isplitl [HWo]; · iexact HWo
    iexact P3
  iintro HO V7 KV7 HA HWo P3
  ihave HKV := (BIBase.Entails.of_eq (sep8 (kvOne m c)).symm) $$ [KV0 KV1 KV2 KV3 KV4 KV5 KV6 KV7]
  · isplitl [KV0]; · iexact KV0
    isplitl [KV1]; · iexact KV1
    isplitl [KV2]; · iexact KV2
    isplitl [KV3]; · iexact KV3
    isplitl [KV4]; · iexact KV4
    isplitl [KV5]; · iexact KV5
    isplitl [KV6] <;> iassumption
  ihave HKE := (BIBase.Entails.of_eq (sep8 (ks2 m c)).symm) $$ [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6] <;> iassumption
  ihave HVE := (BIBase.Entails.of_eq (sep8 (vs2 m c)).symm) $$ [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6] <;> iassumption
  iapply (part14 m K c v2) $$ [HO T0 P3 RR0 HX HWq HKV HA]
  · isplitr; · iexact HF
    isplitl [HO]; · iexact HO
    isplitl [T0]; · iexact T0
    isplitl [P3]; · iexact P3
    isplitl [RR0]; · iexact RR0
    isplitl [HX]; · iexact HX
    isplitl [HWq]; · iexact HWq
    isplitl [HKV]; · unfold kvAll; iexact HKV
    iexact HA
  iintro HO T0 HX HWq HKV HA
  dsimp only
  iapply (part15 m c) $$ [HKV HA]
  · isplitl [HKV] <;> iassumption
  iintro HKV HA
  dsimp only
  iapply (part16 m c) $$ [HKV HA]
  · isplitl [HKV] <;> iassumption
  iintro HKV HA
  dsimp only
  iapply (part17 m c) $$ [HKV HA]
  · isplitl [HKV] <;> iassumption
  iintro HKV HA
  iapply (part18 m K c v7) $$ [HO HA HWo P2 T0]
  · isplitr; · iexact HF
    isplitl [HO]; · iexact HO
    isplitl [HA]; · iexact HA
    isplitl [HWo]; · iexact HWo
    isplitl [P2]; · iexact P2
    iexact T0
  iintro HO HA HWo P2 T0 P3 R0
  iapply (part19 m K c v2 v7) $$ [HO T1 P2 S0 RR1 HX HWq HKV]
  · isplitr; · iexact HF
    isplitl [HO]; · iexact HO
    isplitl [T1]; · iexact T1
    isplitl [P2]; · iexact P2
    isplitl [S0]; · iexact S0
    isplitl [RR1]; · iexact RR1
    isplitl [HX]; · iexact HX
    isplitl [HWq] <;> iassumption
  iintro HO T1 P2 HX HWq HKV
  dsimp only
  iapply (part20 m c) $$ [HKV HA]
  · isplitl [HKV] <;> iassumption
  iintro HKV HA
  dsimp only
  iapply (part21 m c) $$ [HKV HA]
  · isplitl [HKV] <;> iassumption
  iintro HKV HA
  iapply (part22 m c) $$ [HKV HA]
  · isplitl [HKV] <;> iassumption
  iintro HKV HA
  iapply (part23 m K c) $$ [HO HKV HA HWo P1 T1]
  · isplitr; · iexact HF
    isplitl [HO]; · iexact HO
    isplitl [HKV]; · iexact HKV
    isplitl [HA]; · iexact HA
    isplitl [HWo]; · iexact HWo
    isplitl [P1]; · iexact P1
    iexact T1
  iintro HO HKV HA HWo P1 T1 S0
  iapply (part24 m K c v2 v7) $$ [HO T1 T2 P1 S1 RR2]
  · isplitr; · iexact HF
    isplitl [HO]; · iexact HO
    isplitl [T1]; · iexact T1
    isplitl [T2]; · iexact T2
    isplitl [P1]; · iexact P1
    isplitl [S1]; · iexact S1
    iexact RR2
  iintro HO T1 T2 P1 R1 %wa %wb
  dsimp only
  iapply (part25 m c wa wb) $$ [HX HWq HKV HA]
  · isplitl [HX]; · iexact HX
    isplitl [HWq]; · iexact HWq
    isplitl [HKV] <;> iassumption
  iintro HX HWq HKV HA
  dsimp only
  iapply (part26 m c) $$ [HKV HA]
  · isplitl [HKV] <;> iassumption
  iintro HKV HA
  iapply (part27 m c) $$ [HKV HA]
  · isplitl [HKV] <;> iassumption
  iintro HKV HA
  iapply (part28 m c) $$ [HKV HA HWo]
  · isplitl [HKV]; · iexact HKV
    isplitl [HA] <;> iassumption
  iintro HKV HA HWo
  dsimp only
  iapply (part29 m K c v7) $$ [HO P0 T2 Hfin]
  · isplitr; · iexact HF
    isplitl [HO]; · iexact HO
    isplitl [P0]; · iexact P0
    isplitl [T2]; · iexact T2
    iexact Hfin
  iintro HO P0 T2 S1 R2 Hfin
  iapply (part30 m K c v2 v5 v7) $$ [HO Hfin HU T3 T4 Ragl Lagr]
  · isplitr; · iexact HF
    isplitl [HO]; · iexact HO
    isplitl [Hfin]; · iexact Hfin
    isplitl [HU]; · iexact HU
    isplitl [T3]; · iexact T3
    isplitl [T4]; · iexact T4
    isplitl [Ragl]; · iexact Ragl
    iexact Lagr
  iintro HO HU T3 T4 Hfin Hagl %w
  iapply (part31 m K c v5 v7 w) $$ [HO HU T4 T5 Hagl RD0]
  · isplitr; · iexact HF
    isplitl [HO]; · iexact HO
    isplitl [HU]; · iexact HU
    isplitl [T4]; · iexact T4
    isplitl [T5]; · iexact T5
    isplitl [Hagl]; · iexact Hagl
    iexact RD0
  iintro HO HU T4 T5 HL1 Hagr
  iapply (part32 m K c v5 v7) $$ [HO T5 T6 Hagr LD1]
  · isplitr; · iexact HF
    isplitl [HO]; · iexact HO
    isplitl [T5]; · iexact T5
    isplitl [T6]; · iexact T6
    isplitl [Hagr]; · iexact Hagr
    iexact LD1
  iintro HO T5 T6 HL0 Hagr Hagd
  iapply (out_ld m c [nxt c, prv c, c]) $$ HU
  iintro HU
  iapply (out_st m c [nxt c, prv c, c] (nxt (nxt c)) (off_far c) (by rw [nxt_nxt]; rfl)) $$ HU
  iintro HU
  iapply (wp_done c)
  ihave HKE' := (ks_end m c) $$ HKE
  icases HKE' with ⟨HKA, HKz⟩
  ihave HVE' := (vs_end m c) $$ HVE
  icases HVE' with ⟨HVA, HVz⟩
  ihave HKV' := (kv_end m c) $$ HKV
  icases HKV' with ⟨Hkv, Hvv⟩
  iapply Hk $$ HO [Hz HKz HVz T0 T1 T2 T3 T4 T5 T6] [HKA HVA] [HA P0 P1 P2 P3 Hkv Hvv S0 S1 R0 R1 R2 Hfin HL0 HL1 Hagr Hagd] [HX HWq HWo] [HU]
  · unfold zeros
    isplitl [Hz]; · iexact Hz
    isplitl [HKz]; · iexact HKz
    isplitl [HVz]; · iexact HVz
    iapply (BIBase.Entails.of_eq (sep7 (tr3 (F := F) c)).symm)
    isplitl [T0]; · iexact T0
    isplitl [T1]; · iexact T1
    isplitl [T2]; · iexact T2
    isplitl [T3]; · iexact T3
    isplitl [T4]; · iexact T4
    isplitl [T5] <;> iassumption
  · isplitl [HKA] <;> iassumption
  · isplitl [HA]; · iexists _; iexact HA
    isplitl [P0 P1 P2 P3]
    · iapply (p_end c)
      isplitl [P0]; · iexists _; iexact P0
      isplitl [P1]; · iexists _; iexact P1
      isplitl [P2]; · iexists _; iexact P2
      iexists _; iexact P3
    isplitl [Hkv]; · iexact Hkv
    isplitl [Hvv]; · iexact Hvv
    isplitl [S0 S1]
    · iapply (s_end c)
      isplitl [S0]; · iexists _; iexact S0
      iexists _; iexact S1
    isplitl [R0 R1 R2]
    · iapply (r_end c)
      isplitl [R0]; · iexists _; iexact R0
      isplitl [R1]; · iexists _; iexact R1
      iexists _; iexact R2
    isplitl [Hfin]; · iexists _; iexact Hfin
    isplitl [HL0 HL1]
    · iexists (fin m (prv c))
      iapply (halves_join c aglM (fin m (prv c)))
      isplitl [HL0]; · iexact HL0
      iexact HL1
    isplitl [Hagr]; · iexists _; iexact Hagr
    iexists _; iexact Hagd
  · isplitl [HX]; · iexact HX
    isplitl [HWq] <;> iassumption
  · iapply (out_full m c _ (all_devices c)); iexact HU

end Cert.Attn

end
-- ==== Proof.Run.lean ====
/-
The launch: the body handed to the pipeline, the semaphores' invariants made before it starts, and what the run leaves.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.CollectiveSegs

@[expose] public section

noncomputable section

namespace Cert.Attn

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- All a device owes at the start. -/
abbrev js₀ : List Pay := .inl true :: .inl false :: j0
abbrev O₀ (c : Dev nD) : CellTallies nD τ sig Unit := owe c js₀

def Φ₀ (c : Dev nD) : sProp 𝕄 := iprop((∃ K, facts m K ∗ bits c) ∗ arrs m c ∗ mems c)
def Φ₁ (c : Dev nD) : sProp 𝕄 := iprop(zeros c ∗ arrs m c ∗ mems c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => woS m c
    | ⟨3, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

section Before

variable (c : Dev nD) (d)

theorem before_x : (dats m ρ 0 c).before 0 t0_0 d = xS m c :=
  ((dats m ρ 0 c).before_in_eq_fetched 0 rfl (fun _ => rfl) (fun _ _ _ => rfl) (fun t => by rw [fin_N0 t]; rfl) t0_0 d).trans rfl
theorem before_wq : (dats m ρ 0 c).before 1 t0_0 d = wqS m c :=
  ((dats m ρ 0 c).before_in_eq_fetched 1 rfl (fun _ => rfl) (fun _ _ _ => rfl) (fun t => by rw [fin_N0 t]; rfl) t0_0 d).trans rfl
theorem before_wo : (dats m ρ 0 c).before 2 t0_0 d = woS m c :=
  ((dats m ρ 0 c).before_in_eq_fetched 2 rfl (fun _ => rfl) (fun _ _ _ => rfl) (fun t => by rw [fin_N0 t]; rfl) t0_0 d).trans rfl

end Before

def bodyPre (c : Dev nD) : sProp 𝕄 :=
  iprop(Φ₀ m c ∗ (dats m ρ 0 c).owesAt () t0_0.castSucc
    ∗ (∃ d, at_ c xM ((dats m ρ 0 c).before 0 t0_0 d)) ∗ (∃ d, at_ c wqM ((dats m ρ 0 c).before 1 t0_0 d))
    ∗ (∃ d, at_ c woM ((dats m ρ 0 c).before 2 t0_0 d)) ∗ (∃ d, at_ c outM ((dats m ρ 0 c).before 3 t0_0 d)))

def bodyPost (c : Dev nD) : sProp 𝕄 :=
  iprop(Φ₁ m c ∗ (dats m ρ 0 c).owesAt () t0_0.succ
    ∗ at_ c xM (xS m c) ∗ at_ c wqM (wqS m c) ∗ at_ c woM (woS m c) ∗ at_ c outM (outV m))

theorem owes_start (c : Dev nD) : ((dats m ρ 0 c).owesAt () t0_0.castSucc : sProp 𝕄) ⊢ ow c js₀ := by
  unfold Dat.owesAt Pipeline.owesWithin ow
  iintro ⟨%W, %hW, HO⟩
  iexists W; iexact HO
theorem owes_end (c : Dev nD) : (ow c [] : sProp 𝕄) ⊢ (dats m ρ 0 c).owesAt () t0_0.succ := by
  unfold Dat.owesAt Pipeline.owesWithin ow
  iintro ⟨%W, HO⟩
  iexists W
  isplitr
  · ipureintro; exact fun _ _ => Or.inl trivial
  iexact HO

theorem body_spec (c : Dev nD) : bodyPre m ρ c ⊢ wpp c (onArgs (cc0_body (F := F))) (fun _ => bodyPost m ρ c) := by
  unfold bodyPre Φ₀
  iintro ⟨⟨⟨%K, HF, Hb⟩, Ha, Hm⟩, HO, ⟨%d0, Hx⟩, ⟨%d1, Hq⟩, ⟨%d2, Hw⟩, ⟨%d3, Ho⟩⟩
  rw [before_x, before_wq, before_wo]
  ihave HO := (owes_start m ρ c) $$ HO
  iapply (body m K c) $$ [HF Hb Ha Hm HO Hx Hq Hw Ho]
  · isplitl [HF]; · iexact HF
    isplitl [HO]; · iexact HO
    isplitl [Hb]; · iexact Hb
    isplitl [Ha]; · iexact Ha
    isplitl [Hm]; · iexact Hm
    isplitl [Hx Hq Hw]
    · unfold ins
      isplitl [Hx]; · iexact Hx
      isplitl [Hq]; · iexact Hq
      iexact Hw
    iexists _; iexact Ho
  iintro HO Hz Ha Hm Hi Ho
  unfold ins
  icases Hi with ⟨Hx, Hq, Hw⟩
  unfold bodyPost Φ₁
  isplitl [Hz Ha Hm]
  · isplitl [Hz]; · iexact Hz
    isplitl [Ha]; · iexact Ha
    iexact Hm
  isplitl [HO]; · iapply (owes_end m ρ c); iexact HO
  isplitl [Hx]; · iexact Hx
  isplitl [Hq]; · iexact Hq
  isplitl [Hw]; · iexact Hw
  iexact Ho

set_option maxRecDepth 40000 in
/-- What the pipeline asks of the body. -/
theorem body_obligation (c : Dev nD) : BodyObligation (dats (F := F) m ρ 0 c) (defs₀ (F := F)) 𝒱₀ () Set.univ := fun t => by
  rw [fin_N0 t]
  rw [bigSep_W0, bigSep_W0]
  exact body_spec m ρ c

/-! ## The launch -/

/-- A device's own semaphores: all its cells but the barrier's. -/
abbrev osem (k : Fin 8 ⊕ Fin 8 ⊕ Fin 7 ⊕ Fin 7) : SemLoc sig := csem (some k)

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The duties a device pays: to others, and to its own copies' and transfers' cells. -/
abbrev Tok : Type := Pay ⊕ Fin 8 ⊕ Fin 8 ⊕ Fin 7
def tokDev : Tok → Dev nD → Dev nD
  | .inl j => payee j
  | .inr _ => id
def tokCell : Tok → Cell × Bool
  | .inl j => (payCell j, payDuty j)
  | .inr (.inl h) => (kst h, false)
  | .inr (.inr (.inl h)) => (vst h, false)
  | .inr (.inr (.inr t)) => (snd t, false)

theorem tokDev_injective (j : Tok) : Function.Injective (tokDev j) := by
  rcases j with j | k
  · exact payee_injective j
  · exact Function.injective_id
theorem tokCell_injective : Function.Injective tokCell := by decide

/-- A duty as minted, at its payer. -/
def tokOf (cj : Dev nD × Tok) : GSem nD τ sig × ℕ × Bool := (kcell (tokDev cj.2 cj.1, (tokCell cj.2).1), 0, (tokCell cj.2).2)
theorem tokOf_injective : Function.Injective tokOf := by
  rintro ⟨c, j⟩ ⟨c', j'⟩ h
  have h1 := kcell_injective (congrArg Prod.fst h)
  have h2 : (tokCell j).2 = (tokCell j').2 := congrArg (fun x : GSem nD τ sig × ℕ × Bool => x.2.2) h
  have hj : j = j' := tokCell_injective (Prod.ext (congrArg Prod.snd h1) h2)
  subst hj
  exact Prod.ext (tokDev_injective j (congrArg Prod.fst h1)) rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The duty tokens of device `c`'s payments. -/
def toks (c : Dev nD) : sProp 𝕄 := bigSep Finset.univ fun j : Tok => dutyTok ER (kcell (tokDev j c, (tokCell j).1)) 0 (tokCell j).2

/-- What a device is dealt first. -/
def G (c : Dev nD) : sProp 𝕄 :=
  iprop((bigSep Finset.univ fun k : Cell => roundState ER (Rd m) (kcell (c, k)) 0)
    ∗ (bigSep Finset.univ fun k : Cell => atPos ER (kcell (c, k)) 0 ∅ 0)
    ∗ (bigSep Finset.univ fun k : Cell => reached ER (kcell (c, k)) 0) ∗ toks c)

/-- What a device holds by itself once the invariants stand: its positions and tokens. -/
def mine (c : Dev nD) : sProp 𝕄 := iprop((bigSep Finset.univ fun k : Cell => atPos ER (kcell (c, k)) 0 ∅ 0) ∗ toks c)

/-- What all know. -/
def known (K : Dev nD × Cell → ℕ) : sProp 𝕄 :=
  iprop((bigSep Finset.univ fun ck : Dev nD × Cell => cellInv ER (Rd m) (K ck) (kcell ck)) ∗ (bigSep Finset.univ fun ck : Dev nD × Cell => reached ER (kcell ck) 0))
instance known_persistent (K : Dev nD × Cell → ℕ) : BI.Persistent (known m K) := by unfold known; infer_instance

def G' (c : Dev nD) : sProp 𝕄 := iprop(∃ K, known m K ∗ mine c)

omit [FloatOps F] in
/-- Something for every cell, kind by kind. -/
theorem cell_sep (Φ : Cell → sProp 𝕄) :
    bigSep Finset.univ Φ = iprop(Φ bar ∗ (bigSep Finset.univ fun h => Φ (kst h)) ∗ (bigSep Finset.univ fun h => Φ (vst h))
      ∗ (bigSep Finset.univ fun t => Φ (snd t)) ∗ bigSep Finset.univ fun t => Φ (rcv t)) := by
  rw [bigSep_univ_equiv (Equiv.optionEquivSumPUnit.{0} (Fin 8 ⊕ Fin 8 ⊕ Fin 7 ⊕ Fin 7)).symm Φ, bigSep_univ_sum, bigSep_univ_of_subsingleton PUnit.unit,
    bigSep_univ_sum, bigSep_univ_sum, bigSep_univ_sum]
  exact Std.Commutative.comm (op := BI.sep) _ _

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

abbrev own0 (c : Dev nD) : sProp 𝕄 := Pipeline.ownSems0 (Ix := Unit) (Name := ℕ) (U := UU) (Lvl := ℕ) (Val := Elt F) (τ := τ) osem c

omit [FloatOps F] in
theorem own0_eq (c : Dev nD) : (own0 c : sProp 𝕄)
    = iprop((bigSep Finset.univ fun h => semVal (kcell (c, kst h)) 0) ∗ (bigSep Finset.univ fun h => semVal (kcell (c, vst h)) 0)
      ∗ (bigSep Finset.univ fun t => semVal (kcell (c, snd t)) 0) ∗ bigSep Finset.univ fun t => semVal (kcell (c, rcv t)) 0) := by
  unfold own0 Pipeline.ownSems0
  rw [bigSep_univ_sum, bigSep_univ_sum, bigSep_univ_sum]
  rfl
omit [FloatOps F] in
theorem unscopedSems0_eq (c : Dev nD) : (unscopedSems0 c : sProp 𝕄) = semVal (kcell (c, bar)) 0 := by
  unfold unscopedSems0; rw [bigSep_eq_bigSepL_of_eq [SemLoc.reg barS] (by decide) (by decide)]; rfl

omit [FloatOps F] in
theorem sems0_eq (c : Dev nD) : iprop(own0 c ∗ unscopedSems0 c) ⊢ (bigSep Finset.univ fun k : Cell => semVal (kcell (c, k)) 0 : sProp 𝕄) := by
  rw [own0_eq, unscopedSems0_eq, cell_sep]
  exact Idealize.SL.BI.sep_comm

theorem cells_alloc (c : Dev nD) :
    iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- What a device has once its own cells' invariants stand. -/
def stood (c : Dev nD) : sProp 𝕄 :=
  iprop((bigSep Finset.univ fun k : Cell => iprop(∃ κ : ℕ, cellInv ER (Rd m) κ (kcell (c, k))))
    ∗ (bigSep Finset.univ fun k : Cell => reached ER (kcell (c, k)) 0) ∗ mine c)

theorem core_alloc (c : Dev nD) : iprop(own0 c ∗ unscopedSems0 c ∗ G m c) ⊢ |={Set.univ}=> stood m c := by
  unfold G stood mine
  iintro ⟨Hos, Hus, Hst, Hat, Hr, Htok⟩
  ihave Hv := (sems0_eq (F := F) c) $$ [Hos Hus]
  · isplitl [Hos] <;> iassumption
  imod (cells_alloc m c) $$ [Hv Hst] with Hinv
  · isplitl [Hv] <;> iassumption
  imodintro
  isplitl [Hinv]; · iexact Hinv
  isplitl [Hr]; · iexact Hr
  isplitl [Hat]; · iexact Hat
  iexact Htok

theorem give (K : Dev nD × Cell → ℕ) (c : Dev nD) : iprop(known m K ∗ mine c) ⊢ G' m c := by
  unfold G'
  iintro H
  iexists K; iexact H

theorem regroup : (bigSep Finset.univ fun c : Dev nD => stood m c : sProp 𝕄) ⊢ bigSep Finset.univ (G' m) := by
  unfold stood
  rw [bigSep_sep', bigSep_sep', ← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, HR, Hm⟩
  ihave HK := (BI.bigSep_exists_pi Finset.univ (fun (ck : Dev nD × Cell) (κ : ℕ) => (cellInv ER (Rd m) κ (kcell ck) : sProp 𝕄))) $$ HI
  icases HK with ⟨%K, HI⟩
  iapply ((sep_mono_left (BI.bigSep_of_persistent Finset.univ (known m K))).trans
    ((Entails.of_eq (bigSep_sep' Finset.univ (fun _ : Dev nD => known m K) mine).symm).trans (bigSep_mono fun c _ => give m K c)))
  isplitl [HI HR]
  · unfold known
    isplitl [HI]; · iexact HI
    iexact HR
  iexact Hm

theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ### What is owed to a device at the start -/

/-- Summed over the devices, the payments in a list to one cell. -/
theorem owed_sum (c : Dev nD) (k : Cell) (js : List Pay) :
    ∑ d : Dev nD, owe d js (kcell (c, k)) () = (js.map fun j => if payCell j = k then amtC (payCell j) else 0).sum := by
  induction js with
  | nil => exact Finset.sum_const_zero
  | cons j js ih =>
    have hd : ∀ d : Dev nD, owe d (j :: js) (kcell (c, k)) () = owe d js (kcell (c, k)) ()
        + (tallyAt (kcell (payee j d, payCell j)) () (amtC (payCell j)) : CellTallies nD τ sig Unit) (kcell (c, k)) () := fun d => by
      conv_lhs => unfold owe
      rw [Pi.add_apply, Finsupp.add_apply]
    rw [List.map_cons, List.sum_cons, ← ih, Nat.add_comm, Finset.sum_congr rfl fun d _ => hd d, Finset.sum_add_distrib]
    congr 1
    obtain ⟨d₀, h₀⟩ := (Finite.injective_iff_surjective.mp (payee_injective j)) c
    by_cases hk : payCell j = k
    · rw [if_pos hk, Finset.sum_eq_single d₀ (fun d _ hd => ?_) (fun h => absurd (Finset.mem_univ _) h), tallyAt_apply, if_pos ⟨by rw [h₀, hk], rfl⟩]
      rw [tallyAt_apply, if_neg fun h => hd (payee_injective j ((congrArg Prod.fst (kcell_injective h.1)).symm.trans h₀.symm))]
    · rw [if_neg hk]
      exact Finset.sum_eq_zero fun d _ => by
        rw [tallyAt_apply, if_neg fun h => hk (congrArg Prod.snd (kcell_injective h.1)).symm]

theorem launch_cell (c : Dev nD) (k : Cell) (n : ℕ) (hn : (js₀.map fun j => if payCell j = k then amtC (payCell j) else 0).sum = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← hn]
  exact owed_sum c k js₀

theorem amt_bar : (js₀.map fun j => if payCell j = bar then amtC (payCell j) else 0).sum = 2 := by decide
theorem amt_rcv (t : Fin 7) : (js₀.map fun j => if payCell j = rcv t then amtC (payCell j) else 0).sum = amtX t := by
  fin_cases t <;> simp [js₀, payCell, amtC]

omit [FloatOps F] in
theorem last_of {A B C D : sProp 𝕄} : iprop(A ∗ B ∗ C ∗ D) ⊢ D := by
  iintro ⟨-, -, -, H⟩; iexact H

omit [FloatOps F] in
theorem creds (c : Dev nD) :
    (Pipeline.launchCred O₀ c : sProp 𝕄) ⊢ iprop(cred (tallyAt (kcell (c, bar)) () 2) ∗ bigSep Finset.univ fun t => cred (tallyAt (kcell (c, rcv t)) () (amtX t))) := by
  unfold Pipeline.launchCred
  refine (BI.bigSep_subset (Finset.subset_univ (Finset.univ.map ⟨csem, csem_injective⟩))).trans ?_
  rw [bigSep_map, cell_sep]
  refine BI.sep_mono (Entails.of_eq (congrArg cred (launch_cell c bar 2 amt_bar))) ?_
  refine last_of.trans ?_
  exact bigSep_mono fun t _ => Entails.of_eq (congrArg cred (launch_cell c (rcv t) (amtX t) (amt_rcv t)))

/-! ### The theorem's side conditions -/

omit [FloatOps F] in
theorem toks_eq (c : Dev nD) : (toks c : sProp 𝕄)
    = iprop(((dutyTok ER (kcell (nxt c, bar)) 0 false ∗ dutyTok ER (kcell (prv c, bar)) 0 true) ∗ bigSep Finset.univ fun t => dutyTok ER (kcell (tgt t c, rcv t)) 0 false)
      ∗ (bigSep Finset.univ fun h => dutyTok ER (kcell (c, kst h)) 0 false) ∗ (bigSep Finset.univ fun h => dutyTok ER (kcell (c, vst h)) 0 false)
      ∗ bigSep Finset.univ fun t => dutyTok ER (kcell (c, snd t)) 0 false) := by
  unfold toks
  rw [bigSep_univ_sum, bigSep_univ_sum, bigSep_univ_sum, bigSep_univ_sum, bigSep_univ_eq_bigSepL [false, true] (by decide) (by decide), bigSepL_cons_cons,
    bigSepL_singleton]
  rfl

omit [FloatOps F] in
theorem bits_intro (c : Dev nD) : iprop(mine c ∗ Pipeline.launchCred O₀ c) ⊢ (bits c : sProp 𝕄) := by
  unfold mine
  rw [toks_eq, cell_sep]
  unfold bits
  rw [show (kbits (F := F) c) = fun h => iprop(dutyTok ER (kcell (c, kst h)) 0 false ∗ atPos ER (kcell (c, kst h)) 0 ∅ 0) from rfl,
    show (vbits (F := F) c) = fun h => iprop(dutyTok ER (kcell (c, vst h)) 0 false ∗ atPos ER (kcell (c, vst h)) 0 ∅ 0) from rfl,
    show (tr0 (F := F) c) = fun t => iprop(dutyTok ER (kcell (c, snd t)) 0 false ∗ dutyTok ER (kcell (tgt t c, rcv t)) 0 false
      ∗ atPos ER (kcell (c, snd t)) 0 ∅ 0 ∗ atPos ER (kcell (c, rcv t)) 0 ∅ 0 ∗ cred (tallyAt (kcell (c, rcv t)) () (amtX t))) from rfl]
  simp only [bigSep_sep']
  iintro ⟨⟨⟨PB, PK, PV, PS, PR⟩, ⟨⟨TN, TP⟩, TX⟩, TK, TV, TS⟩, Hc⟩
  ihave Hc := (creds (F := F) c) $$ Hc
  icases Hc with ⟨CB, CR⟩
  isplitl [TP]; · iexact TP
  isplitl [TN]; · iexact TN
  isplitl [CB]; · iexact CB
  isplitl [PB]; · iexact PB
  isplitl [TK PK]
  · isplitl [TK]; · iexact TK
    iexact PK
  isplitl [TV PV]
  · isplitl [TV]; · iexact TV
    iexact PV
  isplitl [TS]; · iexact TS
  isplitl [TX]; · iexact TX
  isplitl [PS]; · iexact PS
  isplitl [PR]; · iexact PR
  iexact CR

theorem rest_eq (c : Dev nD) :
    (Pipeline.unscopedRestP Pipeline.Prefetch.none cfg0.spec c (fun b => m ((c : Thread nD τ).loc b)) : sProp 𝕄) = arrs m c := by
  rw [Pipeline.unscopedRestP_none]
  refine (unscopedRest0_eq c _).trans ?_
  exact (congrArg₂ (fun A B : sProp 𝕄 => iprop(A ∗ B)) (owns_whole (c : Thread nD τ) main_arg2 fullShare (kW m c))
    (owns_whole (c : Thread nD τ) main_arg3 fullShare (vW m c))).symm

def X (c : Dev nD) : sProp 𝕄 := iprop((∃ K, facts m K ∗ bits c) ∗ arrs m c)
def Y (c : Dev nD) : sProp 𝕄 := iprop(unscopedSems0 c ∗ arrs m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [rest_eq]
  unfold G' known X facts
  iintro ⟨Ha, Hl, Hc, -, ⟨%K, ⟨HI, HR⟩, Hm⟩⟩
  ihave Hb := (bits_intro (F := F) c) $$ [Hm Hc]
  · isplitl [Hm]; · iexact Hm
    iexact Hc
  imodintro
  isplitl
  · isplitr [Ha]
    · iexists K
      isplitr [Hb]
      · isplitl [HI]; · iexact HI
        isplitl [HR]; · iexact HR
        iexact Hl
      iexact Hb
    iexact Ha
  · iempintro

theorem mems_eq (c : Dev nD) : (Pipeline.scopedRest cfg0.spec c : sProp 𝕄) = mems c := by
  refine (scopedRest0_eq c).trans ?_
  unfold mems free
  simp only [owns_whole]
  rfl

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, mems_eq]
  unfold Φ₀ X
  iintro ⟨⟨Hx, Ha⟩, -, Hm⟩
  isplitl [Hx]; · iexact Hx
  isplitl [Ha]; · iexact Ha
  iexact Hm

theorem phi1_exit (c : Dev nD) : (dats m ρ 0 c).Φ (Fin.last cfg0.N) ⊢ iprop(Y m c ∗ own0 c ∗ Pipeline.scopedRest cfg0.spec c) := by
  rw [show (dats m ρ 0 c).Φ (Fin.last cfg0.N) = Φ₁ m c from rfl, mems_eq, own0_eq]
  unfold Φ₁ Y zeros
  rw [unscopedSems0_eq, show (tr3 (F := F) c) = fun t => iprop(semVal (kcell (c, snd t)) 0 ∗ semVal (kcell (c, rcv t)) 0) from rfl, bigSep_sep']
  iintro ⟨⟨ZB, ZK, ZV, ZS, ZR⟩, Ha, Hm⟩
  isplitl [ZB Ha]
  · isplitl [ZB]; · iexact ZB
    iexact Ha
  isplitl [ZK ZV ZS ZR]
  · isplitl [ZK]; · iexact ZK
    isplitl [ZV]; · iexact ZV
    isplitl [ZS]; · iexact ZS
    iexact ZR
  iexact Hm

theorem idx_of_ne {s : SemLoc sig} (h : ∀ k, csem k ≠ s) : idx s = none := by
  unfold idx
  exact List.find?_eq_none.mpr fun k _ hk => h k (of_decide_eq_true hk)
theorem csem_ne_stage : ∀ (w : Fin 4) (s : Fin (spec0 w).nbuf) (k : Cell), csem k ≠ SemLoc.dma ((spec0 w).sem s) := by decide
theorem idx_stage (w : Fin cfg0.W) (s : Fin (cfg0.spec w).nbuf) : idx (SemLoc.dma ((cfg0.win w).sem s)) = none := idx_of_ne (csem_ne_stage w s)

theorem waits (c : Dev nD) : (levAts L lv : sProp 𝕄) ⊢ Pipeline.cellsWaits cfgs (dats m ρ) () 0 c :=
  Pipeline.cellsWaits_intro cfgs (dats m ρ) () 0 c fun w s t => by
    have h0 : ∀ u, lv ((c : Thread nD τ), SemLoc.dma ((cfg0.win w).sem s)) u ≤ 0 := fun _ => by
      dsimp only [lv]; rw [idx_stage]
    rcases t with ⟨_ | _, ht⟩
    · exact mayWait c _ 0 h0 js₀ (by decide)
    · exact mayWait c _ 0 h0 [] (fun _ h => absurd h List.not_mem_nil)

/-- The key and value arrays are read back as they were. -/
theorem arrs_read (c : Dev nD) (s' : Phys nD τ sig (Elt F)) :
    iprop(arrs m c ∗ SI s') ⊢ iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') := by
  have h := pointsTo_read_all (Ix := Unit) (Name := ℕ) (U := UU) (Lvl := ℕ) (Finset.univ : Finset (Fin 2))
    (fun i => match i with | 0 => (c : Thread nD τ).loc main_arg2 | 1 => (c : Thread nD τ).loc main_arg3)
    (fun i => match i with | 0 => m ((c : Thread nD τ).loc main_arg2) | 1 => m ((c : Thread nD τ).loc main_arg3)) s'
  rw [sep2] at h
  rw [← rest_eq, Pipeline.unscopedRestP_none]
  refine (sep_mono_left (Entails.of_eq (unscopedRest0_eq c _))).trans (h.trans ?_)
  iintro ⟨%h, H⟩
  isplitr
  · ipureintro; exact ⟨h 0 (Finset.mem_univ _), h 1 (Finset.mem_univ _)⟩
  iexact H

/-- What the run is read to leave, off the windows. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem exit_read (c : Dev nD) (s' : Phys nD τ sig (Elt F)) : iprop(Y m c ∗ emp ∗ SI s') ⊢ |={Set.univ}=> iprop(⌜QY m c s'.mem⌝ ∗ SI s') := by
  unfold Y QY
  iintro ⟨⟨Hu, Ha⟩, -, HSI⟩
  ihave H := (arrs_read m c s') $$ [Ha HSI]
  · isplitl [Ha]; · iexact Ha
    iexact HSI
  icases H with ⟨%ha, HSI⟩
  imod (Pipeline.unscopedSems0_read (X := unscopedSems0 c) (c := c) fupd_intro s') $$ [Hu HSI] with ⟨%hu, HSI⟩
  · isplitl [Hu]; · iexact Hu
    iexact HSI
  imodintro
  isplitr
  · ipureintro; exact ⟨hu, ha⟩
  iexact HSI

/-! ### The run -/

/-- What every run leaves: the result the devices' products sum to, the arguments as they were, and no semaphore raised. -/
def Left (s : MemSt nD τ sig (Elt F)) : Prop :=
  (∀ c : Dev nD, (∀ w : Fin cfg0.W, s.mem ((cfg0.win w).arr.view.loc (c : Thread nD τ)) = (dats m ρ 0 c).arrAt w cfg0.N)
    ∧ s.mem ((c : Thread nD τ).loc main_arg2) = m ((c : Thread nD τ).loc main_arg2) ∧ s.mem ((c : Thread nD τ).loc main_arg3) = m ((c : Thread nD τ).loc main_arg3))
  ∧ s.sem = fun _ => 0

set_option maxRecDepth 40000 in
/-- From any memory with no semaphore raised, for any float values, every weakly fair run of the four devices ends. -/
theorem run_main : θ_run defs (onTc (τ := τ) (main (F := F))) (s₀ m ρ) (fun r => Left m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := QY m) (hY := exit_read m)
    (hQ := fun _ h hs => ⟨fun c => ⟨(h c).1, (h c).2.2.2⟩, sem_eq_zero hs fun c => (h c).2.2.1⟩)

end Cert.Attn
-- ==== Proof.Frames.lean ====
/-
The frames: the run leaves the arguments and the semaphores as they were.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Attn

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- What a run leaves of the arguments and the semaphores. -/
theorem Left.frame {m} {ρ} {s : MemSt nD τ sig (Elt F)} (h : Left m ρ s) : (∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem = fun _ => 0 :=
  ⟨fun c => ⟨((h.1 c).1 0).trans ((dats m ρ 0 c).arrAt_in 0 rfl _), ((h.1 c).1 1).trans ((dats m ρ 0 c).arrAt_in 1 rfl _), (h.1 c).2.1, (h.1 c).2.2,
    ((h.1 c).1 2).trans ((dats m ρ 0 c).arrAt_in 2 rfl _)⟩, h.2⟩

set_option maxRecDepth 40000 in
/-- The two printed programs have one body. -/
theorem bodies_eq : Cert.Kernel.defs₀ (F := F) = Cert.KernelIdeal.defs₀ (F := F) := by
  unfold Cert.Kernel.defs₀ Cert.KernelIdeal.defs₀
  refine congrArg (Defs.onTc (Λ := Cert.KernelIdeal.Λ₀)) (funext fun l => funext fun a => ?_)
  match l, a with
  | ⟨0, _⟩, (t, s) => rfl
  | ⟨n + 1, h⟩, _ => exact absurd h (Nat.not_lt.2 (Nat.le_add_left _ _))
theorem defs_eq : Cert.Kernel.defs (F := F) = Cert.KernelIdeal.defs (F := F) := congrArg (Pipeline.defs (Cert.KernelIdeal.pcfgs (F := F))) bodies_eq

set_option maxRecDepth 40000 in
theorem frame_kernel : Cert.quiescent_Kernel := fun m ρ _ => by
  have h := (θ_run Cert.KernelIdeal.defs _ _).mono (fun _ h => h.frame) (run_main (F := Bits) m ρ)
  rw [← defs_eq] at h
  exact h

theorem frame_ideal : Cert.quiescent_KernelIdeal :=
  fun m ρ _ => (θ_run Cert.KernelIdeal.defs _ _).mono (fun _ h => h.frame) (run_main (F := Ideal) m ρ)

theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

instance pre_kernel_facts : Cert.Pre_scores_finite_KernelIdeal.Facts := ⟨by decide, by decide, by decide, by decide, by decide, by decide, by decide⟩
instance pre_reference_facts : Cert.Pre_scores_finite_ReferenceIdeal.Facts := ⟨by decide, by decide, by decide, by decide, by decide, by decide, by decide⟩

theorem frame_ideal_pre : Cert.quiescent_KernelIdeal_pre_scores_finite_KernelIdeal :=
  fun m ρ _ => frame_ideal m ρ trivial
theorem frame_reference_pre : Cert.quiescent_ReferenceIdeal_pre_scores_finite_ReferenceIdeal :=
  fun m ρ _ => frame_reference m ρ trivial

end Cert.Attn
-- ==== Proof.Alg.lean ====
/-
The kernel's result is the reference's: head by head one softmax, and one sum over the heads cut among the devices.
-/
module

public import proofs.«01_k».proof.Defs
public import proofs.«01_k».proof.Proof.RefVal
public import proofs.«01_k».proof.Proof.KerVal
public import proofs.«01_k».proof.Proof.Frames
public import Idealize.ShloMosaic.Lib.ReduceAll
public import Idealize.ShloMosaic.Lib.Layout

@[expose] public section

noncomputable section

namespace Cert.Attn

open Cert.KernelIdeal Cert.KernelIdeal.Gen
open Idealize.ShloMosaic Idealize.ShloMosaic.TcCoe
open Idealize.SL.Sem

/-! ## Reals among the extended reals -/

/-- The number is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} [Fintype ι] {f : ι → EReal} (h : ∀ i, IsReal (f i)) : IsReal (∑ i, f i) :=
  ⟨∑ i, (h i).choose, (Finset.sum_congr rfl fun i _ => (h i).choose_spec).trans (coe_sum _ _)⟩

theorem isReal_of_abs_lt (x : EReal) (h : max x (-x) < ⊤) : IsReal x := by
  induction x with
  | bot => simp at h
  | coe r => exact ⟨r, rfl⟩
  | top => simp at h

/-- The scale is a real that is not negative. -/
theorem scale_real : ∃ r : ℝ, 0 ≤ r ∧ Ideal.ofBits .f32 0x3DB504F3#32 = ((r : ℝ) : EReal) := by
  refine ⟨_, ?_, by simp [Ideal.ofBits, Ideal.ieee]; rfl⟩
  positivity

/-! ## One device's heads are the reference's -/

section
variable (X : Vec Ideal S1x512x1024 .f32) (W : Vec Ideal S1024x1024 .f32) (K V : Vec Ideal S1x2048x8x128 .f32) (O : Vec Ideal S1024x1024 .f32)
  (W' : FVec Ideal Cert.ReferenceIdeal.S1024x4096 .f32) (K' V' : FVec Ideal Cert.ReferenceIdeal.S1x2048x32x128 .f32) (O' : FVec Ideal Cert.ReferenceIdeal.S4096x1024 .f32)
  (c : Fin 4)

/-- Head `h` of device `c` among all the heads. -/
def headAt (h : Fin 8) : Fin 32 := ⟨c.val * 8 + h.val, by omega⟩

variable (hX : ∀ i, IsReal (X i)) (hWr : ∀ i, IsReal (W i)) (hKr : ∀ i, IsReal (K i))
  (hW : ∀ (d k : Fin 1024), W (ix2 d k) = W' (ix2 d ⟨c.val * 1024 + k.val, by omega⟩))
  (hK : ∀ (j : Fin 2048) (h : Fin 8) (e : Fin 128), K (ix4 0 j h e) = K' (ix4 0 j (headAt c h) e))
  (hV : ∀ (j : Fin 2048) (h : Fin 8) (e : Fin 128), V (ix4 0 j h e) = V' (ix4 0 j (headAt c h) e))

include hX hWr hKr in
theorem kScore_real (h : Fin 8) (p : Fin 512) (j : Fin 2048) : IsReal (kScore X W K h p j) := by
  obtain ⟨σ, -, hσ⟩ := scale_real
  exact IsReal.sum fun e => ((IsReal.sum fun d => (hX _).mul (hWr _)).mul ⟨σ, hσ⟩).mul (hKr _)

include hW hK in
/-- The scale goes through the sum. -/
theorem kScore_eq (h : Fin 8) (p : Fin 512) (j : Fin 2048) : kScore X W K h p j = Cert.Ref.score X W' K' (headAt c h) p j := by
  obtain ⟨σ, h0, hσ⟩ := scale_real
  unfold kScore Cert.Ref.score
  rw [hσ, mul_comm _ ((σ : ℝ) : EReal), coe_mul_sum _ h0]
  refine Finset.sum_congr rfl fun e _ => ?_
  rw [mul_comm _ ((σ : ℝ) : EReal), mul_assoc, hK]
  refine congrArg (fun q => (σ : EReal) * (q * K' (ix4 0 j (headAt c h) e))) (Finset.sum_congr rfl fun d _ => ?_)
  rw [hW]
  exact congrArg (fun k => X (ix3 0 p d) * W' (ix2 d k)) (Fin.ext (by
    show c.val * 1024 + (h.val * 128 + e.val) = (c.val * 8 + h.val) * 128 + e.val
    omega))

/-- A sum over the keys, half by half. -/
theorem sum_halves (f : Fin 2048 → EReal) : ∑ j, f j = ∑ j : Fin 1024, f (Cert.Ref.lo j) + ∑ j : Fin 1024, f (Cert.Ref.hi j) :=
  Fin.sum_univ_add (a := 1024) (b := 1024) f

include hX hWr hKr hW hK hV in
theorem kHead_eq (h : Fin 8) (p : Fin 512) (e : Fin 128) : kHead X W K V h p e = Cert.Ref.heads X W' K' V' (ix4 0 p (headAt c h) e) := by
  obtain ⟨s, hs⟩ : ∃ s : Fin 2048 → ℝ, ∀ j, kScore X W K h p j = ((s j : ℝ) : EReal) :=
    ⟨fun j => (kScore_real X W K hX hWr hKr h p j).choose, fun j => (kScore_real X W K hX hWr hKr h p j).choose_spec⟩
  rw [Cert.Ref.heads_apply X W' K' V' (headAt c h) p e s fun j => (kScore_eq X W K W' K' c hW hK h p j).symm.trans (hs j)]
  unfold kHead
  simp only [hs, hV]
  rw [sum_halves, sum_halves]

/-- Column `k` of device `c`'s heads among all the columns. -/
def colAt (k : Fin 1024) : Fin 4096 := ⟨c.val * 1024 + k.val, by omega⟩

variable (hO : ∀ (k n : Fin 1024), O (ix2 k n) = O' (ix2 (colAt c k) n))

include hX hWr hKr hW hK hV hO in
theorem kPart_eq (p : Fin 512) (n : Fin 1024) : kPart X W K V O p n
    = ∑ k : Fin 1024, Cert.Ref.heads X W' K' V' (ix4 0 p ⟨(colAt c k).val / 128, by omega⟩ ⟨(colAt c k).val % 128, by omega⟩) * O' (ix2 (colAt c k) n) := by
  unfold kPart
  refine Finset.sum_congr rfl fun k _ => ?_
  rw [kHead_eq X W K V W' K' V' c hX hWr hKr hW hK hV, hO]
  have e1 : headAt c ⟨k.val / 128, by omega⟩ = ⟨(colAt c k).val / 128, by omega⟩ := Fin.ext (by
    show c.val * 8 + k.val / 128 = (c.val * 1024 + k.val) / 128; omega)
  have e2 : (⟨k.val % 128, by omega⟩ : Fin 128) = ⟨(colAt c k).val % 128, by omega⟩ := Fin.ext (by
    show k.val % 128 = (c.val * 1024 + k.val) % 128; omega)
  rw [e1, e2]
end

/-- A sum over all the columns, device by device. -/
theorem sum_devices (f : Fin 4096 → EReal) : ∑ k, f k = ∑ c : Fin 4, ∑ k : Fin 1024, f (colAt c k) := by
  rw [← Fintype.sum_prod_type' fun (c : Fin 4) (k : Fin 1024) => f (colAt c k)]
  refine (Fintype.sum_equiv (finProdFinEquiv (m := 4) (n := 1024)) _ _ fun x => congrArg f (Fin.ext ?_)).symm
  show x.1.val * 1024 + x.2.val = x.2.val + 1024 * x.1.val
  omega

/-! ## The precondition -/

theorem pre_real {s : Shape} {axes : List (Fin s.rank)} (x : FVec Ideal s .f32) (bc : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] bc (constant ⟨0, ![]⟩ .f32 0x7F800000#32))) (constantI ⟨0, ![]⟩ 1 1#1) h hu j = 1#1)
    (i : s.Idx) : IsReal (x i) := by
  have := Host.reduce_andi_all _ _ h hu j e i
  have ht : Ideal.ofBits .f32 0x7F800000#32 = (⊤ : EReal) := by simp [Ideal.ofBits, Ideal.ieee]
  have h2 : BitVec.ofBool (decide (max (x i) (-(x i)) < Ideal.ofBits .f32 0x7F800000#32)) = 1#1 := this
  rw [ht] at h2
  refine isReal_of_abs_lt _ ?_
  by_contra hn
  rw [decide_eq_false hn] at h2
  exact absurd h2 (by decide)

attribute [local instance] pre_kernel_facts

theorem pre_reals (m : (ℓ : Loc nD τ sig) → Buf (Elt Ideal) ℓ) (h : Cert.Pre_KernelIdeal_scores_finite_KernelIdeal m) (c : Dev nD) :
    (∀ i : S1x512x1024.Idx, IsReal (m ((c.tc : Thread nD τ).loc main_arg0) i)) ∧ (∀ i : S1024x1024.Idx, IsReal (m ((c.tc : Thread nD τ).loc main_arg1) i))
      ∧ (∀ i : S1x2048x8x128.Idx, IsReal (m ((c.tc : Thread nD τ).loc main_arg2) i)) := by
  have h1 := congrFun (h c) (fun a => a.elim0)
  dsimp only [Cert.Pre_scores_finite_KernelIdeal.fn] at h1
  obtain ⟨h2, hk⟩ := IntOp.andi_eq_one.1 h1
  obtain ⟨hx, hw⟩ := IntOp.andi_eq_one.1 h2
  exact ⟨pre_real _ _ _ _ _ hx, pre_real _ _ _ _ _ hw, pre_real _ _ _ _ _ hk⟩

/-! ## The claim -/

/-- The result array holds the sums. -/
theorem result_eq (m : (ℓ : Loc nD τ sig) → Buf (Elt Ideal) ℓ) (ρ : Dev nD → PrngReg) (c : Dev nD) :
    (dats m ρ 0 c).arrAt 3 cfg0.N = outV m := by
  have ha : (dats m ρ 0 c).after 3 t0_0 = outV m := rfl
  refine (dats m ρ 0 c).arrAt_eq_of_after_last 3 t0_0 (by decide +kernel) (outV m) fun j => ?_
  rw [ha]
  generalize outV m = G
  exact (cast_eq _ _).trans rfl

/-- An index of a result. -/
theorem idx_eq (i : S1x512x1024.Idx) : i = ix3 0 (i 1) (i 2) := by
  funext a
  fin_cases a
  · exact Fin.ext (Nat.lt_one_iff.1 (i 0).isLt)
  · rfl
  · rfl

/-- A device's block of the query weights, of the keys or the values, of the output weights. -/
theorem block_W (v : (⟨2, ![1024, 4096]⟩ : Shape).Idx → EReal) (c : Fin 4) (d k : Fin 1024) :
    Layout.block ⟨2, ![1024, 1024]⟩ ⟨2, ![1024, 4096]⟩ 1 4 c v (by decide) (ix2 d k) = v (ix2 d ⟨c.val * 1024 + k.val, by omega⟩) := by
  refine congrArg v (funext fun a => Fin.ext ?_)
  fin_cases a <;> rfl
theorem block_KV (v : (⟨4, ![1, 2048, 32, 128]⟩ : Shape).Idx → EReal) (c : Fin 4) (j : Fin 2048) (h : Fin 8) (e : Fin 128) :
    Layout.block ⟨4, ![1, 2048, 8, 128]⟩ ⟨4, ![1, 2048, 32, 128]⟩ 2 4 c v (by decide) (ix4 0 j h e) = v (ix4 0 j (headAt c h) e) := by
  refine congrArg v (funext fun a => Fin.ext ?_)
  fin_cases a <;> rfl
theorem block_O (v : (⟨2, ![4096, 1024]⟩ : Shape).Idx → EReal) (c : Fin 4) (k n : Fin 1024) :
    Layout.block ⟨2, ![1024, 1024]⟩ ⟨2, ![4096, 1024]⟩ 0 4 c v (by decide) (ix2 k n) = v (ix2 (colAt c k) n) := by
  refine congrArg v (funext fun a => Fin.ext ?_)
  fin_cases a <;> rfl

theorem values (m : (ℓ : Loc nD τ sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_scores_finite_KernelIdeal m)
    (h : ∀ c : Dev Cert.KernelIdeal.nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread nD τ).loc main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread nD τ).loc main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) :
    outV m = Cert.ReferenceIdeal.Value.res_out0 m' 0 := by
  rw [Cert.Ref.out_eq]
  funext i
  rw [idx_eq i]
  refine (outV_eq m (i 1) (i 2)).trans (Eq.trans ?_ (Cert.Ref.out_apply _ _ _ _ _ (i 1) (i 2)).symm)
  refine Eq.trans (Finset.sum_congr rfl fun c _ => ?_) (sum_devices _).symm
  obtain ⟨h0, h1, h2, h3, h4⟩ := h c
  obtain ⟨r0, r1, r2⟩ := pre_reals m hp c
  unfold share
  rw [← h0]
  refine kPart_eq _ _ _ _ _ _ _ _ _ c r0 r1 r2 (fun d k => ?_) (fun j h e => ?_) (fun j h e => ?_) (fun k n => ?_) (i 1) (i 2)
  · exact (congrFun h1 _).trans (block_W _ c _ _)
  · exact (congrFun h2 _).trans (block_KV _ c _ _ _)
  · exact (congrFun h3 _).trans (block_KV _ c _ _ _)
  · exact (congrFun h4 _).trans (block_O _ c _ _)

/-- Every device's result is the reference's whole result. -/
theorem algebraic : Cert.algebraic_KernelIdeal_ReferenceIdeal_pre_scores_finite_KernelIdeal := by
  intro m g m' g' hp h
  refine ⟨outV m, (θ_run _ _ _).mono (fun r hr c => ?_) (run_main m g), (θ_run _ _ _).mono (fun r hr => ?_) (Cert.ReferenceIdeal.Value.run m' g')⟩
  · exact ⟨((hr.1 c).1 3).trans (result_eq m g c), hr.frame.1 c⟩
  · exact ⟨(hr 0).1.trans (values m m' hp h).symm, (hr 0).2⟩

end Cert.Attn
-- ==== Proof.lean ====
/-
The claims, each from the module that proves it.
-/
module

public import proofs.«01_k».proof.Defs
public import proofs.«01_k».proof.Proof.Alg
public import proofs.«01_k».proof.Proof.Frames
public import proofs.«01_k».proof.Proof.Gen.Kernel
public import proofs.«01_k».proof.Proof.Gen.KernelIdeal
public import proofs.«01_k».proof.Proof.Gen.ReferenceIdeal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Attn.pre_kernel_facts, Cert.Attn.pre_reference_facts,
    Cert.Attn.frame_kernel, Cert.Attn.frame_ideal, Cert.Attn.frame_ideal_pre,
    Cert.Attn.frame_reference, Cert.Attn.frame_reference_pre,
    trivial, Cert.Attn.algebraic⟩

end Cert.Proof

end
